-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scalars_finite [hPre_scalars_finite : Cert.Pre_scalars_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scalars_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scalars_finite [hPre_scalars_finite : Cert.Pre_scalars_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scalars_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scalars_finite [hKernelIdeal : Cert.KernelIdeal.Facts] [hPre_scalars_finite : Cert.Pre_scalars_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scalars_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scalars_finite [hReferenceIdeal : Cert.ReferenceIdeal.Facts] [hPre_scalars_finite : Cert.Pre_scalars_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scalars_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scalars_finite [hKernelIdeal : Cert.KernelIdeal.Facts] [hReferenceIdeal : Cert.ReferenceIdeal.Facts] [hPre_scalars_finite : Cert.Pre_scalars_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scalars_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scalars_finite : Cert.Pre_scalars_finite.Facts),
    quiescent_Kernel (hKernel := hKernel)
    ∧ quiescent_KernelIdeal (hKernelIdeal := hKernelIdeal)
    ∧ quiescent_KernelIdeal_pre_scalars_finite (hKernelIdeal := hKernelIdeal) (hPre_scalars_finite := hPre_scalars_finite)
    ∧ quiescent_ReferenceIdeal (hReferenceIdeal := hReferenceIdeal)
    ∧ quiescent_ReferenceIdeal_pre_scalars_finite (hReferenceIdeal := hReferenceIdeal) (hPre_scalars_finite := hPre_scalars_finite)
    ∧ preserves_Kernel_KernelIdeal
    ∧ algebraic_KernelIdeal_ReferenceIdeal_pre_scalars_finite (hKernelIdeal := hKernelIdeal) (hReferenceIdeal := hReferenceIdeal) (hPre_scalars_finite := hPre_scalars_finite)
-- ==== Pre_scalars_finite.lean ====
abbrev S16384x256 : Shape := ⟨2, ![16384, 256]⟩
abbrev S256 : Shape := ⟨1, ![256]⟩
abbrev S1 : Shape := ⟨1, ![1]⟩
abbrev S16384 : Shape := ⟨1, ![16384]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S16384x256 .f32) (main_arg1 : FVec F S256 .f32) (main_arg2 : FVec F S1 .f32) (main_arg3 : FVec F S1 .f32) (main_arg4 : FVec F S1 .f32) (main_arg5 : FVec F S16384 .f32) : IVec S_ 1 :=
  let main_v0 : FVec F S1 .f32 := Host.absf main_arg2
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S1 .f32 := Host.absf main_arg3
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S16384x256 : Shape := ⟨2, ![16384, 256]⟩
abbrev S256 : Shape := ⟨1, ![256]⟩
abbrev S1 : Shape := ⟨1, ![1]⟩
abbrev S16384 : Shape := ⟨1, ![16384]⟩
abbrev S1024 : Shape := ⟨1, ![1024]⟩
abbrev S32x256 : Shape := ⟨2, ![32, 256]⟩
abbrev S32 : Shape := ⟨1, ![32]⟩
abbrev S16 : Shape := ⟨1, ![16]⟩
abbrev S_ : Shape := ⟨0, ![]⟩
abbrev S1x16 : Shape := ⟨2, ![1, 16]⟩
abbrev S256x1 : Shape := ⟨2, ![256, 1]⟩
abbrev S256x8 : Shape := ⟨2, ![256, 8]⟩
abbrev S15x1x1024 : Shape := ⟨3, ![15, 1, 1024]⟩
abbrev S1024x256 : Shape := ⟨2, ![1024, 256]⟩
abbrev S1x1x1024 : Shape := ⟨3, ![1, 1, 1024]⟩
abbrev S1024x8 : Shape := ⟨2, ![1024, 8]⟩
abbrev S8x1024 : Shape := ⟨2, ![8, 1024]⟩
abbrev S1x1024 : Shape := ⟨2, ![1, 1024]⟩
abbrev S8x128 : Shape := ⟨2, ![8, 128]⟩
abbrev S120x128 : Shape := ⟨2, ![120, 128]⟩
abbrev S2x128 : Shape := ⟨2, ![2, 128]⟩
abbrev S1x1 : Shape := ⟨2, ![1, 1]⟩
abbrev S128x128 : Shape := ⟨2, ![128, 128]⟩
abbrev S1x2x128 : Shape := ⟨3, ![1, 2, 128]⟩
abbrev S1x1x1 : Shape := ⟨3, ![1, 1, 1]⟩
abbrev S1x8x128 : Shape := ⟨3, ![1, 8, 128]⟩
abbrev S1x120x128 : Shape := ⟨3, ![1, 120, 128]⟩

abbrev nBuf : Table → Nat
  | .hbm => 23
  | .local .tc .vmem => 17
  | .local .scVector .vmem => 6
  | _ => 0

abbrev bufTy : (tb : Table) → Fin (nBuf tb) → BufTy
  | .hbm, ⟨0, _⟩ => ⟨S16384x256, .f32⟩
  | .hbm, ⟨1, _⟩ => ⟨S256, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S16384, .f32⟩
  | .hbm, ⟨6, _⟩ => ⟨S1024, .f32⟩
  | .hbm, ⟨7, _⟩ => ⟨S1024, .f32⟩
  | .hbm, ⟨8, _⟩ => ⟨S256x1, .f32⟩
  | .hbm, ⟨9, _⟩ => ⟨S256x8, .f32⟩
  | .hbm, ⟨10, _⟩ => ⟨S15x1x1024, .f32⟩
  | .hbm, ⟨11, _⟩ => ⟨S15x1x1024, .f32⟩
  | .hbm, ⟨12, _⟩ => ⟨S8x128, .f32⟩
  | .hbm, ⟨13, _⟩ => ⟨S8x128, .f32⟩
  | .hbm, ⟨14, _⟩ => ⟨S120x128, .f32⟩
  | .hbm, ⟨15, _⟩ => ⟨S120x128, .f32⟩
  | .hbm, ⟨16, _⟩ => ⟨S2x128, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S128x128, .f32⟩
  | .hbm, ⟨21, _⟩ => ⟨S128x128, .f32⟩
  | .hbm, ⟨22, _⟩ => ⟨S16384, .f32⟩
  | .local .tc .vmem, ⟨0, _⟩ => ⟨S1024x256, .f32⟩
  | .local .tc .vmem, ⟨1, _⟩ => ⟨S1024x256, .f32⟩
  | .local .tc .vmem, ⟨2, _⟩ => ⟨S256x8, .f32⟩
  | .local .tc .vmem, ⟨3, _⟩ => ⟨S1x1x1024, .f32⟩
  | .local .tc .vmem, ⟨4, _⟩ => ⟨S1x1x1024, .f32⟩
  | .local .tc .vmem, ⟨5, _⟩ => ⟨S1x1x1024, .f32⟩
  | .local .tc .vmem, ⟨6, _⟩ => ⟨S1x1x1024, .f32⟩
  | .local .tc .vmem, ⟨7, _⟩ => ⟨S8x128, .f32⟩
  | .local .tc .vmem, ⟨8, _⟩ => ⟨S8x128, .f32⟩
  | .local .tc .vmem, ⟨9, _⟩ => ⟨S120x128, .f32⟩
  | .local .tc .vmem, ⟨10, _⟩ => ⟨S120x128, .f32⟩
  | .local .tc .vmem, ⟨11, _⟩ => ⟨S2x128, .f32⟩
  | .local .tc .vmem, ⟨12, _⟩ => ⟨S1x1, .f32⟩
  | .local .tc .vmem, ⟨13, _⟩ => ⟨S1x1, .f32⟩
  | .local .tc .vmem, ⟨14, _⟩ => ⟨S1x1, .f32⟩
  | .local .tc .vmem, ⟨15, _⟩ => ⟨S128x128, .f32⟩
  | .local .tc .vmem, ⟨16, _⟩ => ⟨S128x128, .f32⟩
  | .local .scVector .vmem, ⟨0, _⟩ => ⟨S256, .f32⟩
  | .local .scVector .vmem, ⟨1, _⟩ => ⟨S32x256, .f32⟩
  | .local .scVector .vmem, ⟨2, _⟩ => ⟨S32x256, .f32⟩
  | .local .scVector .vmem, ⟨3, _⟩ => ⟨S32, .f32⟩
  | .local .scVector .vmem, ⟨4, _⟩ => ⟨S32, .f32⟩
  | .local .scVector .vmem, ⟨5, _⟩ => ⟨S16, .f32⟩
  | _, _ => ⟨S16384x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 6, rfl⟩
abbrev main_v0_1_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg4_0 : Ref sig .tc := ⟨.vmem, 11, rfl⟩
abbrev cc2_stg5_0 : Ref sig .tc := ⟨.vmem, 12, rfl⟩
abbrev cc2_stg6_0 : Ref sig .tc := ⟨.vmem, 13, rfl⟩
abbrev cc2_stg7_0 : Ref sig .tc := ⟨.vmem, 14, rfl⟩
abbrev cc2_stg8_0 : Ref sig .tc := ⟨.vmem, 15, rfl⟩
abbrev cc2_stg9_0 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20
abbrev cc2_sem9_0 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32 : BitVec 32 := 0#32
  ![v2.toNat, 0]
@[reducible] def k0_t1_loop : Scf.Loop 32 :=
  let c0_i32_4 : BitVec 32 := 0#32
  let c2_i32_5 : BitVec 32 := 2#32
  let v23 : BitVec 32 := Scalar.addi c0_i32_4 c2_i32_5
  let c1_i32 : BitVec 32 := 1#32
  ⟨c0_i32_4, v23, c1_i32⟩
def k0_off2 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v56 : Index := Scalar.indexCast v55
  let c0_14 : Index := 0#32
  ![v56.toNat, 0]
def k0_off3 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v60 : Index := Scalar.indexCast v55
  let c16_15 : Index := 16#32
  ![v60.toNat, 16]
def k0_off4 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v66 : Index := Scalar.indexCast v55
  let c32_16 : Index := 32#32
  ![v66.toNat, 32]
def k0_off5 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v72 : Index := Scalar.indexCast v55
  let c48_17 : Index := 48#32
  ![v72.toNat, 48]
def k0_off6 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v78 : Index := Scalar.indexCast v55
  let c64_18 : Index := 64#32
  ![v78.toNat, 64]
def k0_off7 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v84 : Index := Scalar.indexCast v55
  let c80_19 : Index := 80#32
  ![v84.toNat, 80]
def k0_off8 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v90 : Index := Scalar.indexCast v55
  let c96_20 : Index := 96#32
  ![v90.toNat, 96]
def k0_off9 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v96 : Index := Scalar.indexCast v55
  let c112_21 : Index := 112#32
  ![v96.toNat, 112]
def k0_off10 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v102 : Index := Scalar.indexCast v55
  let c128_22 : Index := 128#32
  ![v102.toNat, 128]
def k0_off11 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v108 : Index := Scalar.indexCast v55
  let c144_23 : Index := 144#32
  ![v108.toNat, 144]
def k0_off12 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v114 : Index := Scalar.indexCast v55
  let c160_24 : Index := 160#32
  ![v114.toNat, 160]
def k0_off13 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v120 : Index := Scalar.indexCast v55
  let c176_25 : Index := 176#32
  ![v120.toNat, 176]
def k0_off14 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v126 : Index := Scalar.indexCast v55
  let c192_26 : Index := 192#32
  ![v126.toNat, 192]
def k0_off15 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v132 : Index := Scalar.indexCast v55
  let c208_27 : Index := 208#32
  ![v132.toNat, 208]
def k0_off16 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v138 : Index := Scalar.indexCast v55
  let c224_28 : Index := 224#32
  ![v138.toNat, 224]
def k0_off17 (k0_t1 : Fin k0_t1_loop.trips) (c0_i32_13 : BitVec 32) : Fin 2 → Nat :=
  let c0_i32_4 : BitVec 32 := 0#32
  let c1_i32 : BitVec 32 := 1#32
  let arg16 : BitVec 32 := Scf.iv c0_i32_4 c1_i32 k0_t1
  let c16_i32 : BitVec 32 := 16#32
  let v53 : BitVec 32 := Scalar.muli arg16 c16_i32
  let c0_i32_12 : BitVec 32 := 0#32
  let v54 : BitVec 32 := Scalar.addi v53 c0_i32_12
  let v55 : BitVec 32 := Scalar.addi v54 c0_i32_13
  let v144 : Index := Scalar.indexCast v55
  let c240_29 : Index := 240#32
  ![v144.toNat, 240]

def k0_chk1 (v830 : IVec S16 32) : Prop :=
  (∀ a x, ((![v830] : Fin 1 → IVec S16 32) a x).toNat < S16.size a)
theorem k0_idx1_inb : ∀ (v830 : IVec S16 32) (k0_hw1 : k0_chk1 v830), ∀ a x, ((![v830] : Fin 1 → IVec S16 32) a x).toNat < S16.size a := fun v830 k0_hw1 => k0_hw1

def k0_chk2 (v835 : IVec S16 32) : Prop :=
  (∀ a x, ((![v835] : Fin 1 → IVec S16 32) a x).toNat < S16.size a)
theorem k0_idx2_inb : ∀ (v835 : IVec S16 32) (k0_hw2 : k0_chk2 v835), ∀ a x, ((![v835] : Fin 1 → IVec S16 32) a x).toNat < S16.size a := fun v835 k0_hw2 => k0_hw2

def k0_chk3 (v845 : IVec S16 32) : Prop :=
  (∀ a x, ((![v845] : Fin 1 → IVec S16 32) a x).toNat < S16.size a)
theorem k0_idx3_inb : ∀ (v845 : IVec S16 32) (k0_hw3 : k0_chk3 v845), ∀ a x, ((![v845] : Fin 1 → IVec S16 32) a x).toNat < S16.size a := fun v845 k0_hw3 => k0_hw3

def k0_chk4 (v850 : IVec S16 32) : Prop :=
  (∀ a x, ((![v850] : Fin 1 → IVec S16 32) a x).toNat < S16.size a)
theorem k0_idx4_inb : ∀ (v850 : IVec S16 32) (k0_hw4 : k0_chk4 v850), ∀ a x, ((![v850] : Fin 1 → IVec S16 32) a x).toNat < S16.size a := fun v850 k0_hw4 => k0_hw4

def k0_chk5 (v860 : IVec S16 32) : Prop :=
  (∀ a x, ((![v860] : Fin 1 → IVec S16 32) a x).toNat < S16.size a)
theorem k0_idx5_inb : ∀ (v860 : IVec S16 32) (k0_hw5 : k0_chk5 v860), ∀ a x, ((![v860] : Fin 1 → IVec S16 32) a x).toNat < S16.size a := fun v860 k0_hw5 => k0_hw5

def k0_chk6 (v865 : IVec S16 32) : Prop :=
  (∀ a x, ((![v865] : Fin 1 → IVec S16 32) a x).toNat < S16.size a)
theorem k0_idx6_inb : ∀ (v865 : IVec S16 32) (k0_hw6 : k0_chk6 v865), ∀ a x, ((![v865] : Fin 1 → IVec S16 32) a x).toNat < S16.size a := fun v865 k0_hw6 => k0_hw6

def k0_chk7 (v875 : IVec S16 32) : Prop :=
  (∀ a x, ((![v875] : Fin 1 → IVec S16 32) a x).toNat < S16.size a)
theorem k0_idx7_inb : ∀ (v875 : IVec S16 32) (k0_hw7 : k0_chk7 v875), ∀ a x, ((![v875] : Fin 1 → IVec S16 32) a x).toNat < S16.size a := fun v875 k0_hw7 => k0_hw7

def k0_chk8 (v880 : IVec S16 32) : Prop :=
  (∀ a x, ((![v880] : Fin 1 → IVec S16 32) a x).toNat < S16.size a)
theorem k0_idx8_inb : ∀ (v880 : IVec S16 32) (k0_hw8 : k0_chk8 v880), ∀ a x, ((![v880] : Fin 1 → IVec S16 32) a x).toNat < S16.size a := fun v880 k0_hw8 => k0_hw8

def k0_chk9 (v890 : IVec S16 32) : Prop :=
  (∀ a x, ((![v890] : Fin 1 → IVec S16 32) a x).toNat < S16.size a)
theorem k0_idx9_inb : ∀ (v890 : IVec S16 32) (k0_hw9 : k0_chk9 v890), ∀ a x, ((![v890] : Fin 1 → IVec S16 32) a x).toNat < S16.size a := fun v890 k0_hw9 => k0_hw9

def k0_chk10 (v895 : IVec S16 32) : Prop :=
  (∀ a x, ((![v895] : Fin 1 → IVec S16 32) a x).toNat < S16.size a)
theorem k0_idx10_inb : ∀ (v895 : IVec S16 32) (k0_hw10 : k0_chk10 v895), ∀ a x, ((![v895] : Fin 1 → IVec S16 32) a x).toNat < S16.size a := fun v895 k0_hw10 => k0_hw10

def k0_chk11 (v905 : IVec S16 32) : Prop :=
  (∀ a x, ((![v905] : Fin 1 → IVec S16 32) a x).toNat < S16.size a)
theorem k0_idx11_inb : ∀ (v905 : IVec S16 32) (k0_hw11 : k0_chk11 v905), ∀ a x, ((![v905] : Fin 1 → IVec S16 32) a x).toNat < S16.size a := fun v905 k0_hw11 => k0_hw11

def k0_chk12 (v910 : IVec S16 32) : Prop :=
  (∀ a x, ((![v910] : Fin 1 → IVec S16 32) a x).toNat < S16.size a)
theorem k0_idx12_inb : ∀ (v910 : IVec S16 32) (k0_hw12 : k0_chk12 v910), ∀ a x, ((![v910] : Fin 1 → IVec S16 32) a x).toNat < S16.size a := fun v910 k0_hw12 => k0_hw12

def k0_chk13 (v920 : IVec S16 32) : Prop :=
  (∀ a x, ((![v920] : Fin 1 → IVec S16 32) a x).toNat < S16.size a)
theorem k0_idx13_inb : ∀ (v920 : IVec S16 32) (k0_hw13 : k0_chk13 v920), ∀ a x, ((![v920] : Fin 1 → IVec S16 32) a x).toNat < S16.size a := fun v920 k0_hw13 => k0_hw13

def k0_chk14 (v925 : IVec S16 32) : Prop :=
  (∀ a x, ((![v925] : Fin 1 → IVec S16 32) a x).toNat < S16.size a)
theorem k0_idx14_inb : ∀ (v925 : IVec S16 32) (k0_hw14 : k0_chk14 v925), ∀ a x, ((![v925] : Fin 1 → IVec S16 32) a x).toNat < S16.size a := fun v925 k0_hw14 => k0_hw14

def k0_chk15 (v935 : IVec S16 32) : Prop :=
  (∀ a x, ((![v935] : Fin 1 → IVec S16 32) a x).toNat < S16.size a)
theorem k0_idx15_inb : ∀ (v935 : IVec S16 32) (k0_hw15 : k0_chk15 v935), ∀ a x, ((![v935] : Fin 1 → IVec S16 32) a x).toNat < S16.size a := fun v935 k0_hw15 => k0_hw15

def k0_chk16 (v940 : IVec S16 32) : Prop :=
  (∀ a x, ((![v940] : Fin 1 → IVec S16 32) a x).toNat < S16.size a)
theorem k0_idx16_inb : ∀ (v940 : IVec S16 32) (k0_hw16 : k0_chk16 v940), ∀ a x, ((![v940] : Fin 1 → IVec S16 32) a x).toNat < S16.size a := fun v940 k0_hw16 => k0_hw16

def k0_chk17 (v950 : IVec S16 32) : Prop :=
  (∀ a x, ((![v950] : Fin 1 → IVec S16 32) a x).toNat < S16.size a)
theorem k0_idx17_inb : ∀ (v950 : IVec S16 32) (k0_hw17 : k0_chk17 v950), ∀ a x, ((![v950] : Fin 1 → IVec S16 32) a x).toNat < S16.size a := fun v950 k0_hw17 => k0_hw17

def k0_chk18 (v955 : IVec S16 32) : Prop :=
  (∀ a x, ((![v955] : Fin 1 → IVec S16 32) a x).toNat < S16.size a)
theorem k0_idx18_inb : ∀ (v955 : IVec S16 32) (k0_hw18 : k0_chk18 v955), ∀ a x, ((![v955] : Fin 1 → IVec S16 32) a x).toNat < S16.size a := fun v955 k0_hw18 => k0_hw18

def k0_chk19 (v965 : IVec S16 32) : Prop :=
  (∀ a x, ((![v965] : Fin 1 → IVec S16 32) a x).toNat < S16.size a)
theorem k0_idx19_inb : ∀ (v965 : IVec S16 32) (k0_hw19 : k0_chk19 v965), ∀ a x, ((![v965] : Fin 1 → IVec S16 32) a x).toNat < S16.size a := fun v965 k0_hw19 => k0_hw19

def k0_chk20 (v970 : IVec S16 32) : Prop :=
  (∀ a x, ((![v970] : Fin 1 → IVec S16 32) a x).toNat < S16.size a)
theorem k0_idx20_inb : ∀ (v970 : IVec S16 32) (k0_hw20 : k0_chk20 v970), ∀ a x, ((![v970] : Fin 1 → IVec S16 32) a x).toNat < S16.size a := fun v970 k0_hw20 => k0_hw20

def k0_chk21 (v980 : IVec S16 32) : Prop :=
  (∀ a x, ((![v980] : Fin 1 → IVec S16 32) a x).toNat < S16.size a)
theorem k0_idx21_inb : ∀ (v980 : IVec S16 32) (k0_hw21 : k0_chk21 v980), ∀ a x, ((![v980] : Fin 1 → IVec S16 32) a x).toNat < S16.size a := fun v980 k0_hw21 => k0_hw21

def k0_chk22 (v985 : IVec S16 32) : Prop :=
  (∀ a x, ((![v985] : Fin 1 → IVec S16 32) a x).toNat < S16.size a)
theorem k0_idx22_inb : ∀ (v985 : IVec S16 32) (k0_hw22 : k0_chk22 v985), ∀ a x, ((![v985] : Fin 1 → IVec S16 32) a x).toNat < S16.size a := fun v985 k0_hw22 => k0_hw22

def k0_chk23 (v995 : IVec S16 32) : Prop :=
  (∀ a x, ((![v995] : Fin 1 → IVec S16 32) a x).toNat < S16.size a)
theorem k0_idx23_inb : ∀ (v995 : IVec S16 32) (k0_hw23 : k0_chk23 v995), ∀ a x, ((![v995] : Fin 1 → IVec S16 32) a x).toNat < S16.size a := fun v995 k0_hw23 => k0_hw23

def k0_chk24 (v1000 : IVec S16 32) : Prop :=
  (∀ a x, ((![v1000] : Fin 1 → IVec S16 32) a x).toNat < S16.size a)
theorem k0_idx24_inb : ∀ (v1000 : IVec S16 32) (k0_hw24 : k0_chk24 v1000), ∀ a x, ((![v1000] : Fin 1 → IVec S16 32) a x).toNat < S16.size a := fun v1000 k0_hw24 => k0_hw24

def k0_chk25 (v1010 : IVec S16 32) : Prop :=
  (∀ a x, ((![v1010] : Fin 1 → IVec S16 32) a x).toNat < S16.size a)
theorem k0_idx25_inb : ∀ (v1010 : IVec S16 32) (k0_hw25 : k0_chk25 v1010), ∀ a x, ((![v1010] : Fin 1 → IVec S16 32) a x).toNat < S16.size a := fun v1010 k0_hw25 => k0_hw25

def k0_chk26 (v1015 : IVec S16 32) : Prop :=
  (∀ a x, ((![v1015] : Fin 1 → IVec S16 32) a x).toNat < S16.size a)
theorem k0_idx26_inb : ∀ (v1015 : IVec S16 32) (k0_hw26 : k0_chk26 v1015), ∀ a x, ((![v1015] : Fin 1 → IVec S16 32) a x).toNat < S16.size a := fun v1015 k0_hw26 => k0_hw26

def k0_chk27 (v1025 : IVec S16 32) : Prop :=
  (∀ a x, ((![v1025] : Fin 1 → IVec S16 32) a x).toNat < S16.size a)
theorem k0_idx27_inb : ∀ (v1025 : IVec S16 32) (k0_hw27 : k0_chk27 v1025), ∀ a x, ((![v1025] : Fin 1 → IVec S16 32) a x).toNat < S16.size a := fun v1025 k0_hw27 => k0_hw27

def k0_chk28 (v1030 : IVec S16 32) : Prop :=
  (∀ a x, ((![v1030] : Fin 1 → IVec S16 32) a x).toNat < S16.size a)
theorem k0_idx28_inb : ∀ (v1030 : IVec S16 32) (k0_hw28 : k0_chk28 v1030), ∀ a x, ((![v1030] : Fin 1 → IVec S16 32) a x).toNat < S16.size a := fun v1030 k0_hw28 => k0_hw28
def k0_off18 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1042 : Index := Scalar.indexCast v1041
  let c0_247 : Index := 0#32
  ![v1042.toNat, 0]
def k0_off19 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1046 : Index := Scalar.indexCast v1041
  let c16_248 : Index := 16#32
  ![v1046.toNat, 16]
def k0_off20 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1052 : Index := Scalar.indexCast v1041
  let c32_249 : Index := 32#32
  ![v1052.toNat, 32]
def k0_off21 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1058 : Index := Scalar.indexCast v1041
  let c48_250 : Index := 48#32
  ![v1058.toNat, 48]
def k0_off22 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1064 : Index := Scalar.indexCast v1041
  let c64_251 : Index := 64#32
  ![v1064.toNat, 64]
def k0_off23 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1070 : Index := Scalar.indexCast v1041
  let c80_252 : Index := 80#32
  ![v1070.toNat, 80]
def k0_off24 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1076 : Index := Scalar.indexCast v1041
  let c96_253 : Index := 96#32
  ![v1076.toNat, 96]
def k0_off25 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1082 : Index := Scalar.indexCast v1041
  let c112_254 : Index := 112#32
  ![v1082.toNat, 112]
def k0_off26 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1088 : Index := Scalar.indexCast v1041
  let c128_255 : Index := 128#32
  ![v1088.toNat, 128]
def k0_off27 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1094 : Index := Scalar.indexCast v1041
  let c144_256 : Index := 144#32
  ![v1094.toNat, 144]
def k0_off28 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1100 : Index := Scalar.indexCast v1041
  let c160_257 : Index := 160#32
  ![v1100.toNat, 160]
def k0_off29 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1106 : Index := Scalar.indexCast v1041
  let c176_258 : Index := 176#32
  ![v1106.toNat, 176]
def k0_off30 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1112 : Index := Scalar.indexCast v1041
  let c192_259 : Index := 192#32
  ![v1112.toNat, 192]
def k0_off31 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1118 : Index := Scalar.indexCast v1041
  let c208_260 : Index := 208#32
  ![v1118.toNat, 208]
def k0_off32 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1124 : Index := Scalar.indexCast v1041
  let c224_261 : Index := 224#32
  ![v1124.toNat, 224]
def k0_off33 (k0_t1 : Fin k0_t1_loop.trips) (c0_i32_246 : BitVec 32) : Fin 2 → Nat :=
  let c0_i32_4 : BitVec 32 := 0#32
  let c1_i32 : BitVec 32 := 1#32
  let arg16 : BitVec 32 := Scf.iv c0_i32_4 c1_i32 k0_t1
  let c16_i32_244 : BitVec 32 := 16#32
  let v1039 : BitVec 32 := Scalar.muli arg16 c16_i32_244
  let c8_i32_245 : BitVec 32 := 8#32
  let v1040 : BitVec 32 := Scalar.addi v1039 c8_i32_245
  let v1041 : BitVec 32 := Scalar.addi v1040 c0_i32_246
  let v1130 : Index := Scalar.indexCast v1041
  let c240_262 : Index := 240#32
  ![v1130.toNat, 240]

def k0_chk29 (v1816 : IVec S16 32) : Prop :=
  (∀ a x, ((![v1816] : Fin 1 → IVec S16 32) a x).toNat < S16.size a)
theorem k0_idx29_inb : ∀ (v1816 : IVec S16 32) (k0_hw29 : k0_chk29 v1816), ∀ a x, ((![v1816] : Fin 1 → IVec S16 32) a x).toNat < S16.size a := fun v1816 k0_hw29 => k0_hw29

def k0_chk30 (v1821 : IVec S16 32) : Prop :=
  (∀ a x, ((![v1821] : Fin 1 → IVec S16 32) a x).toNat < S16.size a)
theorem k0_idx30_inb : ∀ (v1821 : IVec S16 32) (k0_hw30 : k0_chk30 v1821), ∀ a x, ((![v1821] : Fin 1 → IVec S16 32) a x).toNat < S16.size a := fun v1821 k0_hw30 => k0_hw30

def k0_chk31 (v1831 : IVec S16 32) : Prop :=
  (∀ a x, ((![v1831] : Fin 1 → IVec S16 32) a x).toNat < S16.size a)
theorem k0_idx31_inb : ∀ (v1831 : IVec S16 32) (k0_hw31 : k0_chk31 v1831), ∀ a x, ((![v1831] : Fin 1 → IVec S16 32) a x).toNat < S16.size a := fun v1831 k0_hw31 => k0_hw31

def k0_chk32 (v1836 : IVec S16 32) : Prop :=
  (∀ a x, ((![v1836] : Fin 1 → IVec S16 32) a x).toNat < S16.size a)
theorem k0_idx32_inb : ∀ (v1836 : IVec S16 32) (k0_hw32 : k0_chk32 v1836), ∀ a x, ((![v1836] : Fin 1 → IVec S16 32) a x).toNat < S16.size a := fun v1836 k0_hw32 => k0_hw32

def k0_chk33 (v1846 : IVec S16 32) : Prop :=
  (∀ a x, ((![v1846] : Fin 1 → IVec S16 32) a x).toNat < S16.size a)
theorem k0_idx33_inb : ∀ (v1846 : IVec S16 32) (k0_hw33 : k0_chk33 v1846), ∀ a x, ((![v1846] : Fin 1 → IVec S16 32) a x).toNat < S16.size a := fun v1846 k0_hw33 => k0_hw33

def k0_chk34 (v1851 : IVec S16 32) : Prop :=
  (∀ a x, ((![v1851] : Fin 1 → IVec S16 32) a x).toNat < S16.size a)
theorem k0_idx34_inb : ∀ (v1851 : IVec S16 32) (k0_hw34 : k0_chk34 v1851), ∀ a x, ((![v1851] : Fin 1 → IVec S16 32) a x).toNat < S16.size a := fun v1851 k0_hw34 => k0_hw34

def k0_chk35 (v1861 : IVec S16 32) : Prop :=
  (∀ a x, ((![v1861] : Fin 1 → IVec S16 32) a x).toNat < S16.size a)
theorem k0_idx35_inb : ∀ (v1861 : IVec S16 32) (k0_hw35 : k0_chk35 v1861), ∀ a x, ((![v1861] : Fin 1 → IVec S16 32) a x).toNat < S16.size a := fun v1861 k0_hw35 => k0_hw35

def k0_chk36 (v1866 : IVec S16 32) : Prop :=
  (∀ a x, ((![v1866] : Fin 1 → IVec S16 32) a x).toNat < S16.size a)
theorem k0_idx36_inb : ∀ (v1866 : IVec S16 32) (k0_hw36 : k0_chk36 v1866), ∀ a x, ((![v1866] : Fin 1 → IVec S16 32) a x).toNat < S16.size a := fun v1866 k0_hw36 => k0_hw36

def k0_chk37 (v1876 : IVec S16 32) : Prop :=
  (∀ a x, ((![v1876] : Fin 1 → IVec S16 32) a x).toNat < S16.size a)
theorem k0_idx37_inb : ∀ (v1876 : IVec S16 32) (k0_hw37 : k0_chk37 v1876), ∀ a x, ((![v1876] : Fin 1 → IVec S16 32) a x).toNat < S16.size a := fun v1876 k0_hw37 => k0_hw37

def k0_chk38 (v1881 : IVec S16 32) : Prop :=
  (∀ a x, ((![v1881] : Fin 1 → IVec S16 32) a x).toNat < S16.size a)
theorem k0_idx38_inb : ∀ (v1881 : IVec S16 32) (k0_hw38 : k0_chk38 v1881), ∀ a x, ((![v1881] : Fin 1 → IVec S16 32) a x).toNat < S16.size a := fun v1881 k0_hw38 => k0_hw38

def k0_chk39 (v1891 : IVec S16 32) : Prop :=
  (∀ a x, ((![v1891] : Fin 1 → IVec S16 32) a x).toNat < S16.size a)
theorem k0_idx39_inb : ∀ (v1891 : IVec S16 32) (k0_hw39 : k0_chk39 v1891), ∀ a x, ((![v1891] : Fin 1 → IVec S16 32) a x).toNat < S16.size a := fun v1891 k0_hw39 => k0_hw39

def k0_chk40 (v1896 : IVec S16 32) : Prop :=
  (∀ a x, ((![v1896] : Fin 1 → IVec S16 32) a x).toNat < S16.size a)
theorem k0_idx40_inb : ∀ (v1896 : IVec S16 32) (k0_hw40 : k0_chk40 v1896), ∀ a x, ((![v1896] : Fin 1 → IVec S16 32) a x).toNat < S16.size a := fun v1896 k0_hw40 => k0_hw40

def k0_chk41 (v1906 : IVec S16 32) : Prop :=
  (∀ a x, ((![v1906] : Fin 1 → IVec S16 32) a x).toNat < S16.size a)
theorem k0_idx41_inb : ∀ (v1906 : IVec S16 32) (k0_hw41 : k0_chk41 v1906), ∀ a x, ((![v1906] : Fin 1 → IVec S16 32) a x).toNat < S16.size a := fun v1906 k0_hw41 => k0_hw41

def k0_chk42 (v1911 : IVec S16 32) : Prop :=
  (∀ a x, ((![v1911] : Fin 1 → IVec S16 32) a x).toNat < S16.size a)
theorem k0_idx42_inb : ∀ (v1911 : IVec S16 32) (k0_hw42 : k0_chk42 v1911), ∀ a x, ((![v1911] : Fin 1 → IVec S16 32) a x).toNat < S16.size a := fun v1911 k0_hw42 => k0_hw42

def k0_chk43 (v1921 : IVec S16 32) : Prop :=
  (∀ a x, ((![v1921] : Fin 1 → IVec S16 32) a x).toNat < S16.size a)
theorem k0_idx43_inb : ∀ (v1921 : IVec S16 32) (k0_hw43 : k0_chk43 v1921), ∀ a x, ((![v1921] : Fin 1 → IVec S16 32) a x).toNat < S16.size a := fun v1921 k0_hw43 => k0_hw43

def k0_chk44 (v1926 : IVec S16 32) : Prop :=
  (∀ a x, ((![v1926] : Fin 1 → IVec S16 32) a x).toNat < S16.size a)
theorem k0_idx44_inb : ∀ (v1926 : IVec S16 32) (k0_hw44 : k0_chk44 v1926), ∀ a x, ((![v1926] : Fin 1 → IVec S16 32) a x).toNat < S16.size a := fun v1926 k0_hw44 => k0_hw44

def k0_chk45 (v1936 : IVec S16 32) : Prop :=
  (∀ a x, ((![v1936] : Fin 1 → IVec S16 32) a x).toNat < S16.size a)
theorem k0_idx45_inb : ∀ (v1936 : IVec S16 32) (k0_hw45 : k0_chk45 v1936), ∀ a x, ((![v1936] : Fin 1 → IVec S16 32) a x).toNat < S16.size a := fun v1936 k0_hw45 => k0_hw45

def k0_chk46 (v1941 : IVec S16 32) : Prop :=
  (∀ a x, ((![v1941] : Fin 1 → IVec S16 32) a x).toNat < S16.size a)
theorem k0_idx46_inb : ∀ (v1941 : IVec S16 32) (k0_hw46 : k0_chk46 v1941), ∀ a x, ((![v1941] : Fin 1 → IVec S16 32) a x).toNat < S16.size a := fun v1941 k0_hw46 => k0_hw46

def k0_chk47 (v1951 : IVec S16 32) : Prop :=
  (∀ a x, ((![v1951] : Fin 1 → IVec S16 32) a x).toNat < S16.size a)
theorem k0_idx47_inb : ∀ (v1951 : IVec S16 32) (k0_hw47 : k0_chk47 v1951), ∀ a x, ((![v1951] : Fin 1 → IVec S16 32) a x).toNat < S16.size a := fun v1951 k0_hw47 => k0_hw47

def k0_chk48 (v1956 : IVec S16 32) : Prop :=
  (∀ a x, ((![v1956] : Fin 1 → IVec S16 32) a x).toNat < S16.size a)
theorem k0_idx48_inb : ∀ (v1956 : IVec S16 32) (k0_hw48 : k0_chk48 v1956), ∀ a x, ((![v1956] : Fin 1 → IVec S16 32) a x).toNat < S16.size a := fun v1956 k0_hw48 => k0_hw48

def k0_chk49 (v1966 : IVec S16 32) : Prop :=
  (∀ a x, ((![v1966] : Fin 1 → IVec S16 32) a x).toNat < S16.size a)
theorem k0_idx49_inb : ∀ (v1966 : IVec S16 32) (k0_hw49 : k0_chk49 v1966), ∀ a x, ((![v1966] : Fin 1 → IVec S16 32) a x).toNat < S16.size a := fun v1966 k0_hw49 => k0_hw49

def k0_chk50 (v1971 : IVec S16 32) : Prop :=
  (∀ a x, ((![v1971] : Fin 1 → IVec S16 32) a x).toNat < S16.size a)
theorem k0_idx50_inb : ∀ (v1971 : IVec S16 32) (k0_hw50 : k0_chk50 v1971), ∀ a x, ((![v1971] : Fin 1 → IVec S16 32) a x).toNat < S16.size a := fun v1971 k0_hw50 => k0_hw50

def k0_chk51 (v1981 : IVec S16 32) : Prop :=
  (∀ a x, ((![v1981] : Fin 1 → IVec S16 32) a x).toNat < S16.size a)
theorem k0_idx51_inb : ∀ (v1981 : IVec S16 32) (k0_hw51 : k0_chk51 v1981), ∀ a x, ((![v1981] : Fin 1 → IVec S16 32) a x).toNat < S16.size a := fun v1981 k0_hw51 => k0_hw51

def k0_chk52 (v1986 : IVec S16 32) : Prop :=
  (∀ a x, ((![v1986] : Fin 1 → IVec S16 32) a x).toNat < S16.size a)
theorem k0_idx52_inb : ∀ (v1986 : IVec S16 32) (k0_hw52 : k0_chk52 v1986), ∀ a x, ((![v1986] : Fin 1 → IVec S16 32) a x).toNat < S16.size a := fun v1986 k0_hw52 => k0_hw52

def k0_chk53 (v1996 : IVec S16 32) : Prop :=
  (∀ a x, ((![v1996] : Fin 1 → IVec S16 32) a x).toNat < S16.size a)
theorem k0_idx53_inb : ∀ (v1996 : IVec S16 32) (k0_hw53 : k0_chk53 v1996), ∀ a x, ((![v1996] : Fin 1 → IVec S16 32) a x).toNat < S16.size a := fun v1996 k0_hw53 => k0_hw53

def k0_chk54 (v2001 : IVec S16 32) : Prop :=
  (∀ a x, ((![v2001] : Fin 1 → IVec S16 32) a x).toNat < S16.size a)
theorem k0_idx54_inb : ∀ (v2001 : IVec S16 32) (k0_hw54 : k0_chk54 v2001), ∀ a x, ((![v2001] : Fin 1 → IVec S16 32) a x).toNat < S16.size a := fun v2001 k0_hw54 => k0_hw54

def k0_chk55 (v2011 : IVec S16 32) : Prop :=
  (∀ a x, ((![v2011] : Fin 1 → IVec S16 32) a x).toNat < S16.size a)
theorem k0_idx55_inb : ∀ (v2011 : IVec S16 32) (k0_hw55 : k0_chk55 v2011), ∀ a x, ((![v2011] : Fin 1 → IVec S16 32) a x).toNat < S16.size a := fun v2011 k0_hw55 => k0_hw55

def k0_chk56 (v2016 : IVec S16 32) : Prop :=
  (∀ a x, ((![v2016] : Fin 1 → IVec S16 32) a x).toNat < S16.size a)
theorem k0_idx56_inb : ∀ (v2016 : IVec S16 32) (k0_hw56 : k0_chk56 v2016), ∀ a x, ((![v2016] : Fin 1 → IVec S16 32) a x).toNat < S16.size a := fun v2016 k0_hw56 => k0_hw56

def k0_chk57 (v2026 : IVec S16 32) : Prop :=
  (∀ a x, ((![v2026] : Fin 1 → IVec S16 32) a x).toNat < S16.size a)
theorem k0_idx57_inb : ∀ (v2026 : IVec S16 32) (k0_hw57 : k0_chk57 v2026), ∀ a x, ((![v2026] : Fin 1 → IVec S16 32) a x).toNat < S16.size a := fun v2026 k0_hw57 => k0_hw57

def k0_chk58 (v2031 : IVec S16 32) : Prop :=
  (∀ a x, ((![v2031] : Fin 1 → IVec S16 32) a x).toNat < S16.size a)
theorem k0_idx58_inb : ∀ (v2031 : IVec S16 32) (k0_hw58 : k0_chk58 v2031), ∀ a x, ((![v2031] : Fin 1 → IVec S16 32) a x).toNat < S16.size a := fun v2031 k0_hw58 => k0_hw58
def k0_off34 (k0_t1 : Fin k0_t1_loop.trips) : Fin 1 → Nat :=
  let c0_i32_488 : BitVec 32 := 0#32
  let c0_i32_4 : BitVec 32 := 0#32
  let c1_i32 : BitVec 32 := 1#32
  let arg16 : BitVec 32 := Scf.iv c0_i32_4 c1_i32 k0_t1
  let c16_i32_487 : BitVec 32 := 16#32
  let v2042 : BitVec 32 := Scalar.muli arg16 c16_i32_487
  let v2043 : BitVec 32 := Scalar.addi c0_i32_488 v2042
  let v2044 : Index := Scalar.indexCast v2043
  ![v2044.toNat]

def k0_chk60 (v2047 : IVec S16 32) : Prop :=
  (∀ a x, ((![v2047] : Fin 1 → IVec S16 32) a x).toNat < S16.size a)
theorem k0_idx60_inb : ∀ (v2047 : IVec S16 32) (k0_hw60 : k0_chk60 v2047), ∀ a x, ((![v2047] : Fin 1 → IVec S16 32) a x).toNat < S16.size a := fun v2047 k0_hw60 => k0_hw60

def k0_chk61 (v2052 : IVec S16 32) : Prop :=
  (∀ a x, ((![v2052] : Fin 1 → IVec S16 32) a x).toNat < S16.size a)
theorem k0_idx61_inb : ∀ (v2052 : IVec S16 32) (k0_hw61 : k0_chk61 v2052), ∀ a x, ((![v2052] : Fin 1 → IVec S16 32) a x).toNat < S16.size a := fun v2052 k0_hw61 => k0_hw61

def k0_chk59 (v52 : IVec S16 32) : Prop :=
  (∀ a x, ((![v52] : Fin 1 → IVec S16 32) a x).toNat < S16.size a) ∧
  (∀ a x, ((![v52] : Fin 1 → IVec S16 32) a x).toNat < S16.size a)
theorem k0_idx59_inb : ∀ (v52 : IVec S16 32) (k0_hw59 : k0_chk59 v52), ∀ a x, ((![v52] : Fin 1 → IVec S16 32) a x).toNat < S16.size a := fun v52 k0_hw59 => k0_hw59.1
theorem k0_idx62_inb : ∀ (v52 : IVec S16 32) (k0_hw59 : k0_chk59 v52), ∀ a x, ((![v52] : Fin 1 → IVec S16 32) a x).toNat < S16.size a := fun v52 k0_hw59 => k0_hw59.2
def k0_off35 (k0_t1 : Fin k0_t1_loop.trips) : Fin 1 → Nat :=
  let c0_i32_497 : BitVec 32 := 0#32
  let c0_i32_4 : BitVec 32 := 0#32
  let c1_i32 : BitVec 32 := 1#32
  let arg16 : BitVec 32 := Scf.iv c0_i32_4 c1_i32 k0_t1
  let c16_i32_496 : BitVec 32 := 16#32
  let v2063 : BitVec 32 := Scalar.muli arg16 c16_i32_496
  let v2064 : BitVec 32 := Scalar.addi c0_i32_497 v2063
  let v2065 : Index := Scalar.indexCast v2064
  ![v2065.toNat]
def k0_off36 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev grid1 : Pipeline.Grid := ⟨1, ![15], ![false]⟩

def cc1_transform_0 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := .none

abbrev stage2_0 : Fin 1 → Memref sig .tc .vmem S8x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S120x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S120x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S2x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x256 : Shape := ⟨2, ![16384, 256]⟩
abbrev S256 : Shape := ⟨1, ![256]⟩
abbrev S1 : Shape := ⟨1, ![1]⟩
abbrev S16384 : Shape := ⟨1, ![16384]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S16384, .f32⟩
  | .hbm, ⟨6, _⟩ => ⟨S16384, .f32⟩
  | .hbm, ⟨7, _⟩ => ⟨S16384x256, .f32⟩
  | .hbm, ⟨8, _⟩ => ⟨S_, .f32⟩
  | .hbm, ⟨9, _⟩ => ⟨S16384, .f32⟩
  | .hbm, ⟨10, _⟩ => ⟨S16384, .f32⟩
  | .hbm, ⟨11, _⟩ => ⟨S256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S16384, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S16384, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S16384, .f32⟩
  | .hbm, ⟨35, _⟩ => ⟨S16384, .f32⟩
  | .hbm, ⟨36, _⟩ => ⟨S16384, .f32⟩
  | .hbm, ⟨37, _⟩ => ⟨S16384, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S16384, .f32⟩
  | .hbm, ⟨42, _⟩ => ⟨S16384, .f32⟩
  | .hbm, ⟨43, _⟩ => ⟨S16384, .f32⟩
  | .hbm, ⟨44, _⟩ => ⟨S16384, .f32⟩
  | .hbm, ⟨45, _⟩ => ⟨S16384, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Group.lean ====
/-
  One group of sixteen rows of the SparseCore kernel, written with its loops: the printed body unrolls
  them, and `group_eq` says that it is this program.
-/
module

public import proofs.«01_k».proof.Proof.Gen.KernelIdeal.Skeleton
public import Idealize.ShloMosaic.Lib.Tactic

@[expose] public section

noncomputable section

namespace Cert.KernelIdeal.Tile

open Cert.KernelIdeal Cert.KernelIdeal.Gen
open Idealize.ShloMosaic Idealize.SL.Sem Idealize.ShloMosaic.Tactic

variable {F : FTy → Type} [FloatOps F]

/-- The lane numbers. -/
def lane : IVec S16 32 := iota .scVector S16 32 [0] iota_S16_d0_w32_scVector

/-- The lane numbers with their four bits reversed. -/
def rev : IVec S16 32 :=
  ori (ori (ori (shli (andi lane (broadcast S16 1#32)) (broadcast S16 3#32))
    (shli (andi lane (broadcast S16 2#32)) (broadcast S16 1#32)))
    (shrsi (andi lane (broadcast S16 4#32)) (broadcast S16 1#32)))
    (shrsi (andi lane (broadcast S16 8#32)) (broadcast S16 3#32))

/-- The word naming row `r` of batch `n` of group `t`. -/
def rowWord (t : Fin k0_t1_loop.trips) (n : Fin 2) (r : Fin 8) : BitVec 32 :=
  Scalar.addi (Scalar.addi (Scalar.muli (Scf.iv 0#32 1#32 t) 16#32) (BitVec.ofNat 32 (8 * n.val))) (BitVec.ofNat 32 r.val)

/-- It is row `16 t + 8 n + r`. -/
theorem rowWord_toNat : ∀ (t : Fin k0_t1_loop.trips) (n : Fin 2) (r : Fin 8),
    (Scalar.indexCast (rowWord t n r)).toNat = 16 * t.val + 8 * n.val + r.val := by decide

/-- Where the `j`-th sixteen columns of that row lie. -/
def off (t : Fin k0_t1_loop.trips) (n : Fin 2) (r : Fin 8) (j : Fin 16) : Fin 2 → Nat :=
  ![(Scalar.indexCast (rowWord t n r)).toNat, 16 * j.val]

theorem off_inb (t : Fin k0_t1_loop.trips) (n : Fin 2) (r : Fin 8) (j : Fin 16) :
    ∀ a, off t n r j a + S1x16.size a ≤ S32x256.size a := by
  have ht : t.val < 2 := t.isLt
  have hn := n.isLt; have hr := r.isLt; have hj := j.isLt
  intro a
  fin_cases a
  · show (Scalar.indexCast (rowWord t n r)).toNat + 1 ≤ 32
    rw [rowWord_toNat]; omega
  · show 16 * j.val + 16 ≤ 256
    omega

theorem key_inb (j : Fin 16) : ∀ a, (![16 * j.val] : Fin 1 → Nat) a + S16.size a ≤ S256.size a := by
  have hj := j.isLt
  intro a
  fin_cases a
  show 16 * j.val + 16 ≤ 256
  omega

section Programs

abbrev TileProg (F : FTy → Type) [FloatOps F] (i : grid0.Coords) (α : Type) : Type 1 :=
  Prog (TpuEff nD τ sig (Elt F) Λ₀ (.scVector ((i 0).castLE hcore0) ((i 1).castLE hsub0))) α

variable (i : grid0.Coords) (lanes : Memref sig .scVector .vmem S16 .f32)

/-- The side condition of a gather from sixteen lanes. -/
abbrev InLanes (v : IVec S16 32) : Prop := ∀ a x, ((![v] : Fin 1 → IVec S16 32) a x).toNat < S16.size a

/-- `x` through the lane scratch at given lanes. -/
def gatherAt (x : FVec F S16 .f32) (idx : IVec S16 32) (h : InLanes idx) : TileProg F i (Vec F S16 .f32) := do
  let _ ← Prog.lift (.load lanes (Rect.unit (s := S16) ![0] S16.size inb_S16_S16_0).toLoadRect (View.loadsAt_vmem h_S16))
  Prog.lift (.store lanes (Rect.unit (s := S16) ![0] S16.size inb_S16_S16_0) x Finset.univ (View.stores_vmem_bits_univ h_S16 rfl) (.inl rfl))
  SparseCore.vectorLoadIdx lanes ![idx] h (View.loads_vmem h_S16)

/-- The lane numbers with the bits of `sh` flipped. -/
def flip (sh : BitVec 32) : IVec S16 32 := xori lane (broadcast S16 sh)

/-- `x` plus `x` with the lanes exchanged across the bits of `sh`. -/
def addFlipped (sh : BitVec 32) (x : FVec F S16 .f32) : TileProg F i (FVec F S16 .f32) := do
  have hw : k0_chk1 (flip sh) := (← Prog.lift (TpuEff.assume (k0_chk1 (flip sh)) (k0_chk1.dec (flip sh)))).down
  let y ← gatherAt i lanes x (flip sh) hw
  pure (addf x y)

/-- Of `x` and `y`, the lanes without the bits of `sh` from the first. -/
def choose (sh : BitVec 32) (x y : FVec F S16 .f32) : FVec F S16 .f32 :=
  select (cmpi .eq (andi lane (broadcast S16 sh)) (broadcast S16 0#32)) x y

/-- Two vectors folded into one. -/
def combine (sh : BitVec 32) (x y : FVec F S16 .f32) : TileProg F i (FVec F S16 .f32) := do
  let p ← addFlipped i lanes sh x
  let q ← addFlipped i lanes sh y
  pure (choose sh p q)

/-- One level of the folding: neighbours are combined. -/
def level (sh : BitVec 32) : List (FVec F S16 .f32) → TileProg F i (List (FVec F S16 .f32))
  | x :: y :: rest => do
    let z ← combine i lanes sh x y
    let zs ← level sh rest
    pure (z :: zs)
  | _ => pure []

/-- All the levels in turn. -/
def levels : List (BitVec 32) → List (FVec F S16 .f32) → TileProg F i (List (FVec F S16 .f32))
  | [], xs => pure xs
  | sh :: shs, xs => do
    let ys ← level i lanes sh xs
    levels shs ys

variable (key : Memref sig .scVector .vmem S256 .f32) (buf : Memref sig .scVector .vmem S32x256 .f32)
  (dots squares : Memref sig .scVector .vmem S32 .f32)

/-- Sixteen entries of the key. -/
def loadKey (j : Fin 16) : TileProg F i (Vec F S16 .f32) :=
  Prog.lift (.load key (Rect.unit (s := S256) ![16 * j.val] S16.size (key_inb j)).toLoadRect (View.loadsAt_vmem h_S16))

/-- The key, sixteen entries at a time. -/
def loadKeys : List (Fin 16) → TileProg F i (List (Vec F S16 .f32))
  | [] => pure []
  | j :: js => do
    let v ← loadKey i key j
    let vs ← loadKeys js
    pure (v :: vs)

/-- Sixteen columns of a row. -/
def loadRow (t : Fin k0_t1_loop.trips) (n : Fin 2) (r : Fin 8) (j : Fin 16) : TileProg F i (Vec F S16 .f32) := do
  let v ← Prog.lift (.load buf (Rect.unit (s := S32x256) (off t n r j) S1x16.size (off_inb t n r j)).toLoadRect (View.loadsAt_vmem h_S1x16))
  pure (shapeCast S16 v shapeCasts_S1x16_S16)

/-- The products of a row with the key and with itself, added onto `acc` along the columns `js`. -/
def addRow (kv : Fin 16 → Vec F S16 .f32) (t : Fin k0_t1_loop.trips) (n : Fin 2) (r : Fin 8) :
    List (Fin 16) → FVec F S16 .f32 × FVec F S16 .f32 → TileProg F i (FVec F S16 .f32 × FVec F S16 .f32)
  | [], acc => pure acc
  | j :: js, acc => do
    let v ← loadRow i buf t n r j
    addRow kv t n r js (addf acc.1 (mulf v (kv j)), addf acc.2 (mulf v v))

/-- The sixteen partial sums of a row, with the key and with itself. -/
def sumRow (kv : Fin 16 → Vec F S16 .f32) (t : Fin k0_t1_loop.trips) (n : Fin 2) (r : Fin 8) :
    TileProg F i (FVec F S16 .f32 × FVec F S16 .f32) := do
  let v ← loadRow i buf t n r 0
  addRow i buf kv t n r [1, 2, 3, 4, 5, 6, 7, 8, 9, 10, 11, 12, 13, 14, 15] (mulf v (kv 0), mulf v v)

/-- The partial sums of several rows. -/
def sumRows (kv : Fin 16 → Vec F S16 .f32) (t : Fin k0_t1_loop.trips) (n : Fin 2) :
    List (Fin 8) → TileProg F i (List (FVec F S16 .f32 × FVec F S16 .f32))
  | [] => pure []
  | r :: rs => do
    let a ← sumRow i buf kv t n r
    let rest ← sumRows kv t n rs
    pure (a :: rest)

/-- The vector of zeros, the value of an empty folding (there is none). -/
def nought : FVec F S16 .f32 := broadcast S16 (Scalar.ofBits .f32 0#32)

/-- Eight rows, their partial sums folded three times. -/
def batch (kv : Fin 16 → Vec F S16 .f32) (t : Fin k0_t1_loop.trips) (n : Fin 2) :
    TileProg F i (FVec F S16 .f32 × FVec F S16 .f32) := do
  let accs ← sumRows i buf kv t n [0, 1, 2, 3, 4, 5, 6, 7]
  let zd ← levels i lanes [8#32, 4#32, 2#32] (accs.map Prod.fst)
  let zs ← levels i lanes [8#32, 4#32, 2#32] (accs.map Prod.snd)
  pure (zd.headD nought, zs.headD nought)

/-- Sixteen rows: the dot products with the key, and the sums of squares. -/
def group (kv : Fin 16 → Vec F S16 .f32) (t : Fin k0_t1_loop.trips) : TileProg F i (BitVec 32) := do
  have hw : k0_chk59 rev := (← Prog.lift (TpuEff.assume (k0_chk59 rev) (k0_chk59.dec rev))).down
  let a ← batch i lanes buf kv t 0
  let b ← batch i lanes buf kv t 1
  let z ← combine i lanes 1#32 a.1 b.1
  let u ← gatherAt i lanes z rev hw.1
  let _ ← Prog.lift (.load dots (Rect.unit (s := S32) (k0_off34 t) S16.size (k0_off34_inb t)).toLoadRect (View.loadsAt_vmem h_S16))
  Prog.lift (.store dots (Rect.unit (s := S32) (k0_off34 t) S16.size (k0_off34_inb t)) u Finset.univ (View.stores_vmem_bits_univ h_S16 rfl) (.inl rfl))
  let z' ← combine i lanes 1#32 a.2 b.2
  let u' ← gatherAt i lanes z' rev hw.2
  let _ ← Prog.lift (.load squares (Rect.unit (s := S32) (k0_off35 t) S16.size (k0_off35_inb t)).toLoadRect (View.loadsAt_vmem h_S16))
  Prog.lift (.store squares (Rect.unit (s := S32) (k0_off35 t) S16.size (k0_off35_inb t)) u' Finset.univ (View.stores_vmem_bits_univ h_S16 rfl) (.inl rfl))
  pure 0#32

end Programs

/-- A tile's first half: its rows and the key come in, and the groups are run. -/
def compute (i : grid0.Coords) (arg2 : Memref sig .scVector .hbm S16384x256 .f32) (arg3 : Memref sig .scVector .hbm S256 .f32) (harg3 : arg3.IsWhole)
    (arg6 : Memref sig .scVector .vmem S256 .f32) (harg6 : arg6.IsWhole) (arg7 : Memref sig .scVector .vmem S32x256 .f32) (harg7 : arg7.IsWhole)
    (arg9 arg10 : Memref sig .scVector .vmem S32 .f32) (arg11 : Memref sig .scVector .vmem S16 .f32) (arg12 arg16 : DmaSems sig S_) : TileProg F i PUnit := do
  Prog.lift (.enqueueDma (arg2.slice (Rect.unit (s := S16384x256) (k0_off1 i) S32x256.size (k0_off1_inb i)) (fun _ => rfl)) (.here arg7) (.dma arg12.sem) (View.wordExact_bits rfl) harg7.wordExact ⟨Or.inl rfl, trivial⟩)
  Prog.lift (.enqueueDma arg3 (.here arg6) (.dma arg16.sem) harg3.wordExact harg6.wordExact ⟨Or.inl rfl, trivial⟩)
  Prog.lift (.waitDma2 arg16.sem arg3 arg6 harg3.wordExact harg6.wordExact)
  let ks ← loadKeys i arg6 [0, 1, 2, 3, 4, 5, 6, 7, 8, 9, 10, 11, 12, 13, 14, 15]
  Prog.lift (.waitDma2 arg12.sem (arg2.slice (Rect.unit (s := S16384x256) (k0_off1 i) S32x256.size (k0_off1_inb i)) (fun _ => rfl)) arg7 (View.wordExact_bits rfl) harg7.wordExact)
  let _ ← Scf.Loop.for k0_t1_loop k0_t1_ok 0#32 fun t _ => group i arg11 arg7 arg9 arg10 (fun j => ks.getD j.val nought) t
  pure ⟨⟩

/-- Its second half: the results go out. -/
def deliver (i : grid0.Coords) (arg4 arg5 : Memref sig .scVector .hbm S1024 .f32)
    (arg9 : Memref sig .scVector .vmem S32 .f32) (harg9 : arg9.IsWhole) (arg10 : Memref sig .scVector .vmem S32 .f32) (harg10 : arg10.IsWhole)
    (arg14 arg15 : DmaSems sig S_) : TileProg F i PUnit := do
  Prog.lift (.enqueueDma arg9 (.here (arg4.slice (Rect.unit (s := S1024) (k0_off36 i) S32.size (k0_off36_inb i)) (fun _ => rfl))) (.dma arg14.sem) harg9.wordExact (View.wordExact_bits rfl) ⟨Or.inl rfl, trivial⟩)
  Prog.lift (.enqueueDma arg10 (.here (arg5.slice (Rect.unit (s := S1024) (k0_off36 i) S32.size (k0_off36_inb i)) (fun _ => rfl))) (.dma arg15.sem) harg10.wordExact (View.wordExact_bits rfl) ⟨Or.inl rfl, trivial⟩)
  Prog.lift (.waitDma2 arg14.sem arg9 (arg4.slice (Rect.unit (s := S1024) (k0_off36 i) S32.size (k0_off36_inb i)) (fun _ => rfl)) harg9.wordExact (View.wordExact_bits rfl))
  Prog.lift (.waitDma2 arg15.sem arg10 (arg5.slice (Rect.unit (s := S1024) (k0_off36 i) S32.size (k0_off36_inb i)) (fun _ => rfl)) harg10.wordExact (View.wordExact_bits rfl))
  pure ⟨⟩

/-- The printed function is the two halves in turn. -/
theorem task_eq (i : grid0.Coords) (arg2 : Memref sig .scVector .hbm S16384x256 .f32) (harg2 : arg2.IsWhole) (arg3 : Memref sig .scVector .hbm S256 .f32) (harg3 : arg3.IsWhole)
    (arg4 : Memref sig .scVector .hbm S1024 .f32) (harg4 : arg4.IsWhole) (arg5 : Memref sig .scVector .hbm S1024 .f32) (harg5 : arg5.IsWhole)
    (arg6 : Memref sig .scVector .vmem S256 .f32) (harg6 : arg6.IsWhole) (arg7 : Memref sig .scVector .vmem S32x256 .f32) (harg7 : arg7.IsWhole)
    (arg8 : Memref sig .scVector .vmem S32x256 .f32) (harg8 : arg8.IsWhole) (arg9 : Memref sig .scVector .vmem S32 .f32) (harg9 : arg9.IsWhole)
    (arg10 : Memref sig .scVector .vmem S32 .f32) (harg10 : arg10.IsWhole) (arg11 : Memref sig .scVector .vmem S16 .f32) (harg11 : arg11.IsWhole)
    (arg12 arg13 arg14 arg15 arg16 : DmaSems sig S_) :
    cc0__sc_phase1 (F := F) i arg2 harg2 arg3 harg3 arg4 harg4 arg5 harg5 arg6 harg6 arg7 harg7 arg8 harg8 arg9 harg9 arg10 harg10 arg11 harg11
        arg12 arg13 arg14 arg15 arg16
      = (compute i arg2 arg3 harg3 arg6 harg6 arg7 harg7 arg9 arg10 arg11 arg12 arg16 >>= fun _ => deliver i arg4 arg5 arg9 harg9 arg10 harg10 arg14 arg15) := by
  sl_kernel_rfl

end Cert.KernelIdeal.Tile
-- ==== Proof.Setup.lean ====
/-
  The program as the launch theorem sees it: its body table, its resource algebra, and the buffers a
  tile of the SparseCore kernel works on.
-/
module

public import proofs.«01_k».proof.Proof.Group
public import proofs.«01_k».proof.Proof.Gen.KernelIdeal.Launch
public import Idealize.ShloMosaic.Lib.SparseCore.Quiescent
public import Idealize.ShloMosaic.Lib.StableHlo.Run
public import Idealize.ShloMosaic.Lib.Pipeline.Kit

@[expose] public section

noncomputable section

namespace Cert.KernelIdeal.Tile

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI Idealize.SL.Sem
open scoped Idealize.SL.BI
open Idealize.ShloMosaic.Rounds

variable {F : FTy → Type}

/-- The labels of the two TensorCore calls over the SparseCore kernel's. -/
abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's rounds, the pipelines' rounds, and the counters of the local copies. -/
abbrev UH : Type := URounds (GSem nD τ sig) ℕ
abbrev UP : Type := URounds (GSem nD τ sig) Unit
abbrev UU : Type := UH × (UP × Counters)

/-- Assertions about a run of the program. -/
abbrev MM (F : FTy → Type) : Type _ := MT nD τ sig (HIx 1) (Elt F) ℕ UU ℕ

abbrev EH : Emb UH (MM F) := embL

/-- A tile of the SparseCores. -/
abbrev thr (d : Dev nD) (i : grid0.Coords) : Thread nD τ := V d ((i 0).castLE hcore0) ((i 1).castLE hsub0)

end Cert.KernelIdeal.Tile
-- ==== Proof.Tile.lean ====
/-
  What the pieces of a tile's program compute, and that they run: each as a Hoare triple whose result is
  a plain expression of the buffers' contents.
-/
module

public import proofs.«01_k».proof.Proof.Setup
public import Idealize.ShloMosaic.Lib.Pointwise

@[expose] public section

noncomputable section

namespace Cert.KernelIdeal.Tile

open Cert.KernelIdeal Cert.KernelIdeal.Gen
open Idealize.ShloMosaic Idealize.ShloMosaic.Tactic
open Idealize.SL Idealize.SL.RA Idealize.SL.BI Idealize.SL.Sem Idealize.SL.ProofMode
open scoped Idealize.SL.BI
open Idealize.SL.BI.BIBase Idealize.SL.BI.Laws

variable {F : FTy → Type} [FloatOps F]

/-! ## The values -/

/-- The lanes of `x` named by `idx`. -/
def pick (x : FVec F S16 .f32) (idx : IVec S16 32) : FVec F S16 .f32 :=
  fun l => x (ix1 ⟨(idx l).toNat % 16, Nat.mod_lt _ (by decide)⟩)

theorem loadIdx_eq_pick (x : FVec F S16 .f32) (idx : IVec S16 32) (h : InLanes idx) :
    loadIdx (F := F) (s := S16) (e := .f32) x ![idx] h = pick x idx := by
  funext l
  unfold loadIdx pick
  congr 1
  funext a
  have ha : a = 0 := Subsingleton.elim _ _
  subst ha
  exact Fin.ext (Nat.mod_eq_of_lt (h 0 l)).symm

/-- `x` folded across the bits of `sh`. -/
def folded (sh : BitVec 32) (x : FVec F S16 .f32) : FVec F S16 .f32 := addf x (pick x (flip sh))

/-- Two vectors folded into one. -/
def joined (sh : BitVec 32) (x y : FVec F S16 .f32) : FVec F S16 .f32 := choose sh (folded sh x) (folded sh y)

/-- Neighbours joined. -/
def joinedPairs (sh : BitVec 32) : List (FVec F S16 .f32) → List (FVec F S16 .f32)
  | x :: y :: rest => joined sh x y :: joinedPairs sh rest
  | _ => []

/-- All the levels in turn. -/
def joinedAll : List (BitVec 32) → List (FVec F S16 .f32) → List (FVec F S16 .f32)
  | [], xs => xs
  | sh :: shs, xs => joinedAll shs (joinedPairs sh xs)

/-- Sixteen columns of a row of `rows`. -/
def rowPart (rows : Vec F S32x256 .f32) (t : Fin k0_t1_loop.trips) (n : Fin 2) (r : Fin 8) (j : Fin 16) : FVec F S16 .f32 :=
  fun l => rows (ix2 ⟨16 * t.val + 8 * n.val + r.val, by have ht : t.val < 2 := t.isLt; have := n.isLt; have := r.isLt; omega⟩
    ⟨16 * j.val + (l 0).val, by have := j.isLt; have hl : (l 0).val < 16 := (l 0).isLt; omega⟩)

/-- Sixteen entries of the key. -/
def keyPart (key : Vec F S256 .f32) (j : Fin 16) : FVec F S16 .f32 :=
  fun l => key (ix1 ⟨16 * j.val + (l 0).val, by have := j.isLt; have hl : (l 0).val < 16 := (l 0).isLt; omega⟩)

/-- The products of a row's columns with `w`'s, added onto `acc` in turn. -/
def addedUp (v w : Fin 16 → FVec F S16 .f32) : List (Fin 16) → FVec F S16 .f32 → FVec F S16 .f32
  | [], acc => acc
  | j :: js, acc => addedUp v w js (addf acc (mulf (v j) (w j)))

/-- A row's sixteen partial sums against `w`. -/
def partials (v w : Fin 16 → FVec F S16 .f32) : FVec F S16 .f32 :=
  addedUp v w [1, 2, 3, 4, 5, 6, 7, 8, 9, 10, 11, 12, 13, 14, 15] (mulf (v 0) (w 0))

/-- Eight rows folded. -/
def batched (xs : Fin 8 → FVec F S16 .f32) : FVec F S16 .f32 :=
  (joinedAll [8#32, 4#32, 2#32] ([0, 1, 2, 3, 4, 5, 6, 7].map xs)).headD nought

/-- Sixteen rows folded and put in order. -/
def grouped (xs : Fin 2 → Fin 8 → FVec F S16 .f32) : FVec F S16 .f32 :=
  pick (joined 1#32 (batched (xs 0)) (batched (xs 1))) rev

/-- The dot products of group `t`. -/
def groupDots (rows : Vec F S32x256 .f32) (kv : Fin 16 → FVec F S16 .f32) (t : Fin k0_t1_loop.trips) : FVec F S16 .f32 :=
  grouped fun n r => partials (rowPart rows t n r) kv

/-- The sums of squares of group `t`. -/
def groupSquares (rows : Vec F S32x256 .f32) (t : Fin k0_t1_loop.trips) : FVec F S16 .f32 :=
  grouped fun n r => partials (rowPart rows t n r) (rowPart rows t n r)

/-! ## The triples -/

section Triples

variable (d : Dev nD) (i : grid0.Coords)

/-- `p` run from `R` returns `a` and leaves `R'`. -/
structure Runs {α : Type} (R : sProp (MM F)) (p : TileProg F i α) (a : α) (R' : sProp (MM F)) : Prop where
  run : ∀ {β : Type} (k : α → TileProg F i β) (Q : β → sProp (MM F)),
    R ⊢ iprop((R' -∗ wp frame (wpE (defs₀ (F := F)) 𝒱₀ (thr d i) none) Set.univ (k a) Q)
      -∗ wp frame (wpE (defs₀ (F := F)) 𝒱₀ (thr d i) none) Set.univ (p >>= k) Q)

variable {d i}

theorem Runs.ret {α : Type} {R : sProp (MM F)} (a : α) : Runs d i R (pure a) a R := by
  refine ⟨fun {β} k Q => ?_⟩
  iintro HR Hk
  iapply Hk
  iexact HR

theorem Runs.bind {α β : Type} {R R' R'' : sProp (MM F)} {p : TileProg F i α} {a : α} {f : α → TileProg F i β} {b : β}
    (hp : Runs d i R p a R') (hf : Runs d i R' (f a) b R'') : Runs d i R (p >>= f) b R'' := by
  refine ⟨fun {γ} k Q => ?_⟩
  rw [bind_assoc]
  iintro HR Hk
  iapply (hp.run (fun x => f x >>= k) Q) $$ HR
  iintro HR
  iapply (hf.run k Q) $$ HR
  iexact Hk

theorem Runs.frame_left {α : Type} {R R' : sProp (MM F)} {p : TileProg F i α} {a : α} (S : sProp (MM F))
    (hp : Runs d i R p a R') : Runs d i iprop(S ∗ R) p a iprop(S ∗ R') := by
  refine ⟨fun {γ} k Q => ?_⟩
  iintro ⟨HS, HR⟩ Hk
  iapply (hp.run k Q) $$ HR
  iintro HR
  iapply Hk
  isplitl [HS]; · iexact HS
  iexact HR

theorem Runs.frame_right {α : Type} {R R' : sProp (MM F)} {p : TileProg F i α} {a : α} (S : sProp (MM F))
    (hp : Runs d i R p a R') : Runs d i iprop(R ∗ S) p a iprop(R' ∗ S) := by
  refine ⟨fun {γ} k Q => ?_⟩
  iintro ⟨HR, HS⟩ Hk
  iapply (hp.run k Q) $$ HR
  iintro HR
  iapply Hk
  isplitl [HR]; · iexact HR
  iexact HS

theorem Runs.assume {R : sProp (MM F)} {P : Prop} {dec : Decidable P} (h : P) :
    Runs d i R (Prog.lift (TpuEff.assume P dec)) ⟨h⟩ R := by
  refine ⟨fun {β} k Q => ?_⟩
  iintro HR Hk
  iapply (wp_assume 𝒱₀ (thr d i) none Set.univ (k := k) h)
  iapply Hk
  iexact HR

theorem Runs.load {s : Shape} {e : EltTy} {m : Memref sig .scVector .vmem s e} {r : LoadRect s} {hl : m.view.LoadsAt r}
    (f : Buf (Elt F) (m.view.loc (thr d i))) (q : PosShare TreeShare) :
    Runs d i (m.view.loc (thr d i) ↦{q} f) (Prog.lift (.load m r hl)) (m.view.readAt (Elt F) r f) (m.view.loc (thr d i) ↦{q} f) := by
  refine ⟨fun {β} k Q => ?_⟩
  exact wp_load 𝒱₀ (thr d i) none Set.univ (m := m) (r := r) (hl := hl) (k := k) (S := Finset.univ) (q := q) (f := f) (Finset.subset_univ _)

theorem Runs.store {s : Shape} {e : EltTy} {m : Memref sig .scVector .vmem s e} {r : Rect s} {w : r.shape.Idx → Elt F e} {Mk : Finset r.shape.Idx}
    {hx : (m.access r).Stores Mk} {hm : Mk = Finset.univ ∨ ∀ a, r.stride a = 1} (f : Buf (Elt F) (m.view.loc (thr d i))) :
    Runs d i (m.view.loc (thr d i) ↦{fullShare} f) (Prog.lift (.store m r w Mk hx hm)) ⟨⟩
      (m.view.loc (thr d i) ↦{fullShare} (m.access r).write (Elt F) f w Mk) := by
  refine ⟨fun {β} k Q => ?_⟩
  exact wp_store 𝒱₀ (thr d i) none Set.univ (m := m) (r := r) (w := w) (Mk := Mk) (hx := hx) (hm := hm) (k := k) (S := Finset.univ) (f := f) (Finset.subset_univ _)

theorem Runs.of_exists {α X : Type} {R : X → sProp (MM F)} {R' : sProp (MM F)} {p : TileProg F i α} {a : α}
    (h : ∀ x, Runs d i (R x) p a R') : Runs d i iprop(∃ x, R x) p a R' := by
  refine ⟨fun {β} k Q => ?_⟩
  iintro ⟨%x, HR⟩ Hk
  iapply ((h x).run k Q) $$ HR
  iexact Hk

theorem Runs.post {α : Type} {R R' R'' : sProp (MM F)} {p : TileProg F i α} {a : α}
    (h : Runs d i R p a R') (hR : R' ⊢ R'') : Runs d i R p a R'' := by
  refine ⟨fun {β} k Q => ?_⟩
  iintro HR Hk
  iapply (h.run k Q) $$ HR
  iintro HR
  iapply Hk
  iapply hR
  iexact HR

end Triples

end Cert.KernelIdeal.Tile
-- ==== Proof.Steps.lean ====
/-
  The triples of a tile's pieces, up to a whole group of sixteen rows.
-/
module

public import proofs.«01_k».proof.Proof.Tile

@[expose] public section

noncomputable section

namespace Cert.KernelIdeal.Tile

open Cert.KernelIdeal Cert.KernelIdeal.Gen
open Idealize.ShloMosaic Idealize.ShloMosaic.Tactic
open Idealize.SL Idealize.SL.RA Idealize.SL.BI Idealize.SL.Sem Idealize.SL.ProofMode
open scoped Idealize.SL.BI
open Idealize.SL.BI.BIBase Idealize.SL.BI.Laws

variable {F : FTy → Type} [FloatOps F]

section Triples

variable {d : Dev nD} {i : grid0.Coords}

variable (d i)

/-! ## The buffers of a tile -/

abbrev lanesW : Memref sig .scVector .vmem S16 .f32 := Memref.whole cc0_scratch5
abbrev keyW : Memref sig .scVector .vmem S256 .f32 := Memref.whole cc0_scratch0
abbrev rowsW : Memref sig .scVector .vmem S32x256 .f32 := Memref.whole cc0_scratch1
abbrev dotsW : Memref sig .scVector .vmem S32 .f32 := Memref.whole cc0_scratch3
abbrev squaresW : Memref sig .scVector .vmem S32 .f32 := Memref.whole cc0_scratch4

/-- The lane scratch, at whatever it holds. -/
def lanesAny : sProp (MM F) := iprop(∃ f, (lanesW).view.loc (thr d i) ↦{fullShare} f)

theorem run_gatherAt (x : FVec F S16 .f32) (idx : IVec S16 32) (h : InLanes idx) :
    Runs d i (lanesAny (F := F) d i) (gatherAt i lanesW x idx h) (pick x idx) (lanesAny (F := F) d i) := by
  unfold lanesAny gatherAt
  refine Runs.of_exists fun f => Runs.bind (Runs.load f fullShare) (Runs.bind (Runs.store f) ?_)
  refine ⟨fun {β} k Q => ?_⟩
  have hg := SparseCore.wp_vectorLoadIdx (defs := defs₀ (F := F)) 𝒱₀ (thr d i) none Set.univ (base := lanesW) (idxs := ![idx]) (h := h)
    (hl := View.loads_vmem h_S16) (k := k) (Q := Q) (S := Finset.univ) (q := fullShare)
    (f := ((lanesW).access (Rect.unit (s := S16) ![0] S16.size inb_S16_S16_0)).write (Elt F) f x Finset.univ) (Finset.subset_univ _)
  have e : loadIdx (F := F) (s := S16) (e := .f32) (((lanesW).access (Rect.whole S16)).read (Elt F)
      (((lanesW).access (Rect.unit (s := S16) ![0] S16.size inb_S16_S16_0)).write (Elt F) f x Finset.univ)) ![idx] h = pick x idx :=
    (congrArg (fun z => loadIdx (F := F) (s := S16) (e := .f32) z ![idx] h) ((Memref.read_access_whole (Elt F) cc0_scratch5 _).trans
      (Memref.write_access_unit_zero_univ (Elt F) cc0_scratch5 (by decide) inb_S16_S16_0 f x))).trans (loadIdx_eq_pick x idx h)
  rw [e] at hg
  iintro H Hk
  iapply hg $$ H
  iintro H
  iapply Hk
  iexists _
  iexact H

/-- The lanes a fold names are lanes. -/
theorem flip_inLanes (sh : BitVec 32) (h : sh = 8#32 ∨ sh = 4#32 ∨ sh = 2#32 ∨ sh = 1#32) : InLanes (flip sh) := by
  rcases h with rfl | rfl | rfl | rfl <;> decide

theorem rev_inLanes : InLanes rev := by decide

variable {d i}

theorem run_addFlipped (sh : BitVec 32) (h : sh = 8#32 ∨ sh = 4#32 ∨ sh = 2#32 ∨ sh = 1#32) (x : FVec F S16 .f32) :
    Runs d i (lanesAny (F := F) d i) (addFlipped i lanesW sh x) (folded sh x) (lanesAny (F := F) d i) := by
  unfold addFlipped folded
  exact Runs.bind (Runs.assume (flip_inLanes sh h)) (Runs.bind (run_gatherAt d i x (flip sh) _) (Runs.ret _))

theorem run_combine (sh : BitVec 32) (h : sh = 8#32 ∨ sh = 4#32 ∨ sh = 2#32 ∨ sh = 1#32) (x y : FVec F S16 .f32) :
    Runs d i (lanesAny (F := F) d i) (combine i lanesW sh x y) (joined sh x y) (lanesAny (F := F) d i) := by
  unfold combine joined
  exact Runs.bind (run_addFlipped sh h x) (Runs.bind (run_addFlipped sh h y) (Runs.ret _))

theorem run_level (sh : BitVec 32) (h : sh = 8#32 ∨ sh = 4#32 ∨ sh = 2#32 ∨ sh = 1#32) : ∀ xs : List (FVec F S16 .f32),
    Runs d i (lanesAny (F := F) d i) (level i lanesW sh xs) (joinedPairs sh xs) (lanesAny (F := F) d i)
  | x :: y :: rest => by
    rw [level, joinedPairs]
    exact Runs.bind (run_combine sh h x y) (Runs.bind (run_level sh h rest) (Runs.ret _))
  | [] => by rw [level, joinedPairs]; exacts [Runs.ret _, nofun, nofun]
  | [x] => by rw [level, joinedPairs]; exacts [Runs.ret _, nofun, nofun]

theorem run_levels : ∀ (shs : List (BitVec 32)) (_ : ∀ sh ∈ shs, sh = 8#32 ∨ sh = 4#32 ∨ sh = 2#32 ∨ sh = 1#32) (xs : List (FVec F S16 .f32)),
    Runs d i (lanesAny (F := F) d i) (levels i lanesW shs xs) (joinedAll shs xs) (lanesAny (F := F) d i)
  | [], _, xs => by rw [levels, joinedAll]; exact Runs.ret _
  | sh :: shs, h, xs => by
    rw [levels, joinedAll]
    exact Runs.bind (run_level sh (h sh List.mem_cons_self) xs) (run_levels shs (fun s hs => h s (List.mem_cons_of_mem _ hs)) _)

/-! ## The loads -/

theorem keyPart_eq (f : Vec F S256 .f32) (j : Fin 16) :
    (keyW).view.readAt (Elt F) (Rect.unit (s := S256) ![16 * j.val] S16.size (key_inb j)).toLoadRect f = keyPart f j := by
  funext l
  refine congrArg f (funext fun a => Fin.ext ?_)
  fin_cases a
  show 16 * j.val + 1 * (l 0).val = 16 * j.val + (l 0).val
  omega

theorem run_loadKey (f : Vec F S256 .f32) (j : Fin 16) :
    Runs d i ((keyW).view.loc (thr d i) ↦{fullShare} f) (loadKey i keyW j) (keyPart f j) ((keyW).view.loc (thr d i) ↦{fullShare} f) := by
  unfold loadKey
  rw [← keyPart_eq]
  exact Runs.load (m := keyW) f fullShare

theorem run_loadKeys (f : Vec F S256 .f32) : ∀ js : List (Fin 16),
    Runs d i ((keyW).view.loc (thr d i) ↦{fullShare} f) (loadKeys i keyW js) (js.map (keyPart f)) ((keyW).view.loc (thr d i) ↦{fullShare} f)
  | [] => by rw [loadKeys, List.map_nil]; exact Runs.ret _
  | j :: js => by
    rw [loadKeys, List.map_cons]
    exact Runs.bind (run_loadKey f j) (Runs.bind (run_loadKeys f js) (Runs.ret _))

theorem rowPart_eq (f : Vec F S32x256 .f32) (t : Fin k0_t1_loop.trips) (n : Fin 2) (r : Fin 8) (j : Fin 16) :
    shapeCast S16 ((rowsW).view.readAt (Elt F) (Rect.unit (s := S32x256) (off t n r j) S1x16.size (off_inb t n r j)).toLoadRect f) shapeCasts_S1x16_S16
      = rowPart f t n r j := by
  funext l
  refine (shapeCast_apply _ _ _ (ix2 (n0 := 1) (n1 := 16) 0 (l 0)) ?_).trans (congrArg f (funext fun a => Fin.ext ?_))
  · rw [Shape.rowMajor_val_two, Shape.rowMajor_val_one]
    show 0 * 16 + (l 0).val = (l 0).val
    omega
  · fin_cases a
    · show (Scalar.indexCast (rowWord t n r)).toNat + 1 * 0 = 16 * t.val + 8 * n.val + r.val
      rw [rowWord_toNat]; omega
    · show 16 * j.val + 1 * (l 0).val = 16 * j.val + (l 0).val
      omega

theorem run_loadRow (f : Vec F S32x256 .f32) (t : Fin k0_t1_loop.trips) (n : Fin 2) (r : Fin 8) (j : Fin 16) :
    Runs d i ((rowsW).view.loc (thr d i) ↦{fullShare} f) (loadRow i rowsW t n r j) (rowPart f t n r j) ((rowsW).view.loc (thr d i) ↦{fullShare} f) := by
  unfold loadRow
  rw [← rowPart_eq]
  exact Runs.bind (Runs.load (m := rowsW) f fullShare) (Runs.ret _)

theorem run_addRow (f : Vec F S32x256 .f32) (kv : Fin 16 → Vec F S16 .f32) (t : Fin k0_t1_loop.trips) (n : Fin 2) (r : Fin 8) :
    ∀ (js : List (Fin 16)) (acc : FVec F S16 .f32 × FVec F S16 .f32),
    Runs d i ((rowsW).view.loc (thr d i) ↦{fullShare} f) (addRow i rowsW kv t n r js acc)
      (addedUp (rowPart f t n r) kv js acc.1, addedUp (rowPart f t n r) (rowPart f t n r) js acc.2) ((rowsW).view.loc (thr d i) ↦{fullShare} f)
  | [], acc => by rw [addRow, addedUp, addedUp]; exact Runs.ret _
  | j :: js, acc => by
    rw [addRow, addedUp, addedUp]
    exact Runs.bind (run_loadRow f t n r j) (run_addRow f kv t n r js _)

theorem run_sumRow (f : Vec F S32x256 .f32) (kv : Fin 16 → Vec F S16 .f32) (t : Fin k0_t1_loop.trips) (n : Fin 2) (r : Fin 8) :
    Runs d i ((rowsW).view.loc (thr d i) ↦{fullShare} f) (sumRow i rowsW kv t n r)
      (partials (rowPart f t n r) kv, partials (rowPart f t n r) (rowPart f t n r)) ((rowsW).view.loc (thr d i) ↦{fullShare} f) := by
  unfold sumRow partials
  exact Runs.bind (run_loadRow f t n r 0) (run_addRow f kv t n r _ _)

theorem run_sumRows (f : Vec F S32x256 .f32) (kv : Fin 16 → Vec F S16 .f32) (t : Fin k0_t1_loop.trips) (n : Fin 2) : ∀ rs : List (Fin 8),
    Runs d i ((rowsW).view.loc (thr d i) ↦{fullShare} f) (sumRows i rowsW kv t n rs)
      (rs.map fun r => (partials (rowPart f t n r) kv, partials (rowPart f t n r) (rowPart f t n r))) ((rowsW).view.loc (thr d i) ↦{fullShare} f)
  | [] => by rw [sumRows, List.map_nil]; exact Runs.ret _
  | r :: rs => by
    rw [sumRows, List.map_cons]
    exact Runs.bind (run_sumRow f kv t n r) (Runs.bind (run_sumRows f kv t n rs) (Runs.ret _))

/-- The tile's rows, and the lane scratch at whatever it holds. -/
def work (d : Dev nD) (i : grid0.Coords) (f : Vec F S32x256 .f32) : sProp (MM F) :=
  iprop(((rowsW).view.loc (thr d i) ↦{fullShare} f) ∗ lanesAny (F := F) d i)

theorem shifts_ok : ∀ sh ∈ [8#32, 4#32, 2#32], sh = 8#32 ∨ sh = 4#32 ∨ sh = 2#32 ∨ sh = 1#32 := fun sh h => by
  simp only [List.mem_cons, List.not_mem_nil, or_false] at h
  tauto

theorem run_batch (f : Vec F S32x256 .f32) (kv : Fin 16 → Vec F S16 .f32) (t : Fin k0_t1_loop.trips) (n : Fin 2) :
    Runs d i (work d i f) (batch i lanesW rowsW kv t n)
      (batched (fun r => partials (rowPart f t n r) kv), batched fun r => partials (rowPart f t n r) (rowPart f t n r)) (work d i f) := by
  unfold batched work batch
  refine Runs.bind ((run_sumRows f kv t n _).frame_right _) (Runs.bind ((run_levels _ shifts_ok _).frame_left _)
    (Runs.bind ((run_levels _ shifts_ok _).frame_left _) (Runs.ret _)))

/-- Groups before `n` are done: their sixteen entries of `f` are `g`'s. -/
def Done (g : Fin k0_t1_loop.trips → FVec F S16 .f32) (n : ℕ) (f : Vec F S32 .f32) : Prop :=
  ∀ (t : Fin k0_t1_loop.trips) (l : Fin 16), t.val < n → f (ix1 ⟨16 * t.val + l.val, by have ht : t.val < 2 := t.isLt; have := l.isLt; omega⟩) = g t (ix1 l)

theorem off34_eq : ∀ t : Fin k0_t1_loop.trips, k0_off34 t 0 = 16 * t.val := by decide
theorem off35_eq : ∀ t : Fin k0_t1_loop.trips, k0_off35 t 0 = 16 * t.val := by decide

theorem Done.step {g : Fin k0_t1_loop.trips → FVec F S16 .f32} {t : Fin k0_t1_loop.trips} {f : Vec F S32 .f32} (h : Done g t.val f)
    (o : Fin 1 → Nat) (ho : o 0 = 16 * t.val) (inb : ∀ a, o a + S16.size a ≤ S32.size a) : Done g (t.val + 1) (updateSlice f (g t) o ⟨rfl, inb⟩) := by
  intro t' l hlt
  have hl := l.isLt
  by_cases e : t' = t
  · subst e
    have hin : ∀ a : Fin S32.rank, o a ≤ ((ix1 (⟨16 * t'.val + l.val, by have ht : t'.val < 2 := t'.isLt; omega⟩ : Fin 32) : S32.Idx) a).val
        ∧ ((ix1 (⟨16 * t'.val + l.val, by have ht : t'.val < 2 := t'.isLt; omega⟩ : Fin 32) : S32.Idx) a).val < o a + S16.size a := by
      intro a
      fin_cases a
      show o 0 ≤ 16 * t'.val + l.val ∧ 16 * t'.val + l.val < o 0 + 16
      omega
    refine (dif_pos hin).trans (congrArg (g t') (funext fun a => Fin.ext ?_))
    fin_cases a
    show 16 * t'.val + l.val - o 0 = l.val
    omega
  · have hne : t'.val ≠ t.val := fun h => e (Fin.ext h)
    refine (dif_neg fun hin => ?_).trans (h t' l (by omega))
    have h0 : o 0 ≤ 16 * t'.val + l.val ∧ 16 * t'.val + l.val < o 0 + 16 := hin 0
    omega

end Triples

end Cert.KernelIdeal.Tile
-- ==== Proof.Whole.lean ====
/-
  A whole group of sixteen rows: what it leaves in the two result buffers.
-/
module

public import proofs.«01_k».proof.Proof.Steps

@[expose] public section

noncomputable section

namespace Cert.KernelIdeal.Tile

open Cert.KernelIdeal Cert.KernelIdeal.Gen
open Idealize.ShloMosaic Idealize.ShloMosaic.Tactic
open Idealize.SL Idealize.SL.RA Idealize.SL.BI Idealize.SL.Sem Idealize.SL.ProofMode
open scoped Idealize.SL.BI
open Idealize.SL.BI.BIBase Idealize.SL.BI.Laws

variable {F : FTy → Type} [FloatOps F]

section Triples

variable {d : Dev nD} {i : grid0.Coords}

/-- The result buffers. -/
def results (d : Dev nD) (i : grid0.Coords) (f g : Vec F S32 .f32) : sProp (MM F) :=
  iprop(((dotsW).view.loc (thr d i) ↦{fullShare} f) ∗ ((squaresW).view.loc (thr d i) ↦{fullShare} g))

theorem run_putDots (f g : Vec F S32 .f32) (w : Vec F S16 .f32) (o : Fin 1 → Nat) (inb : ∀ a, o a + S16.size a ≤ S32.size a) {hx hm} :
    Runs d i (results (F := F) d i f g) (Prog.lift (.store dotsW (Rect.unit (s := S32) o S16.size inb) w Finset.univ hx hm)) ⟨⟩
      (results d i (updateSlice f w o ⟨rfl, inb⟩) g) := by
  unfold results
  rw [← View.write_whole_slice_unit (Val := Elt F) cc0_scratch3 o S16.size inb f w]
  exact (Runs.store (m := dotsW) f).frame_right _

theorem run_putSquares (f g : Vec F S32 .f32) (w : Vec F S16 .f32) (o : Fin 1 → Nat) (inb : ∀ a, o a + S16.size a ≤ S32.size a) {hx hm} :
    Runs d i (results (F := F) d i f g) (Prog.lift (.store squaresW (Rect.unit (s := S32) o S16.size inb) w Finset.univ hx hm)) ⟨⟩
      (results d i f (updateSlice g w o ⟨rfl, inb⟩)) := by
  unfold results
  rw [← View.write_whole_slice_unit (Val := Elt F) cc0_scratch4 o S16.size inb g w]
  exact (Runs.store (m := squaresW) g).frame_left _

theorem run_group (f : Vec F S32x256 .f32) (kv : Fin 16 → Vec F S16 .f32) (t : Fin k0_t1_loop.trips) (fd fs : Vec F S32 .f32) :
    Runs d i iprop(work d i f ∗ results d i fd fs) (group i lanesW rowsW dotsW squaresW kv t) 0#32
      iprop(work d i f ∗ results d i (updateSlice fd (groupDots f kv t) (k0_off34 t) ⟨rfl, k0_off34_inb t⟩)
        (updateSlice fs (groupSquares f t) (k0_off35 t) ⟨rfl, k0_off35_inb t⟩)) := by
  have hc (z z' : FVec F S16 .f32) : Runs d i (work d i f) (combine i lanesW 1#32 z z') (joined 1#32 z z') (work d i f) :=
    (run_combine 1#32 (by tauto) _ _).frame_left _
  have hg (z : FVec F S16 .f32) (h : InLanes rev) : Runs d i (work d i f) (gatherAt i lanesW z rev h) (pick z rev) (work d i f) :=
    (run_gatherAt d i _ rev _).frame_left _
  unfold group
  refine Runs.bind (Runs.assume ⟨rev_inLanes, rev_inLanes⟩) (Runs.bind ((run_batch f kv t 0).frame_right _) (Runs.bind ((run_batch f kv t 1).frame_right _)
    (Runs.bind ((hc _ _).frame_right _) (Runs.bind ((hg _ _).frame_right _)
    (Runs.bind (((Runs.load (m := dotsW) fd fullShare).frame_right _).frame_left _) (Runs.bind ((run_putDots fd fs _ _ _).frame_left _)
    (Runs.bind ((hc _ _).frame_right _) (Runs.bind ((hg _ _).frame_right _)
    (Runs.bind (((Runs.load (m := squaresW) fs fullShare).frame_left _).frame_left _) (Runs.bind ((run_putSquares _ fs _ _ _).frame_left _) (Runs.ret _)))))))))))

end Triples

end Cert.KernelIdeal.Tile
-- ==== Proof.Body.lean ====
/-
  A tile's task: its rows and the key are copied in, two groups of rows are reduced, and the results are
  copied out.
-/
module

public import proofs.«01_k».proof.Proof.Whole

@[expose] public section

noncomputable section

namespace Cert.KernelIdeal.Tile

open Cert.KernelIdeal Cert.KernelIdeal.Gen
open Idealize.ShloMosaic Idealize.ShloMosaic.Tactic
open Idealize.ShloMosaic.SparseCore.Cfg (HIx)
open Idealize.SL Idealize.SL.RA Idealize.SL.BI Idealize.SL.Sem Idealize.SL.ProofMode
open scoped Idealize.SL.BI
open Idealize.SL.BI.BIBase Idealize.SL.BI.Laws

variable {F : FTy → Type} [FloatOps F]

section Body

variable (d : Dev nD) (i : grid0.Coords)

abbrev memoryW : Memref sig .scVector .hbm S16384x256 .f32 := Memref.whole main_arg0_scv
abbrev inKeyW : Memref sig .scVector .hbm S256 .f32 := Memref.whole main_arg1_scv
abbrev outDotsW : Memref sig .scVector .hbm S1024 .f32 := Memref.whole main_v0_0_scv
abbrev outSquaresW : Memref sig .scVector .hbm S1024 .f32 := Memref.whole main_v0_1_scv

/-- The rows a tile takes. -/
abbrev inRows : Memref sig .scVector .hbm S32x256 .f32 :=
  (memoryW).slice (Rect.unit (s := S16384x256) (k0_off1 i) S32x256.size (k0_off1_inb i)) (fun _ => rfl)
/-- The entries of the results a tile fills. -/
abbrev outDots : Memref sig .scVector .hbm S32 .f32 :=
  (outDotsW).slice (Rect.unit (s := S1024) (k0_off36 i) S32.size (k0_off36_inb i)) (fun _ => rfl)
abbrev outSquares : Memref sig .scVector .hbm S32 .f32 :=
  (outSquaresW).slice (Rect.unit (s := S1024) (k0_off36 i) S32.size (k0_off36_inb i)) (fun _ => rfl)

/-- What a tile owes, its waits so far recorded. -/
def owing (O : CellTallies nD τ sig (HIx 1)) (W : Waits sig (HIx 1)) : sProp (MM F) :=
  iprop(∃ W', ⌜∀ p ∈ W', p ∈ W ∨ p.2 = none⌝ ∗ owes (thr d i) O W')

/-- The loop's invariant: the groups so far are in the result buffers. -/
def loopInv (f : Vec F S32x256 .f32) (kv : Fin 16 → Vec F S16 .f32) (n : ℕ) (_ : BitVec 32) : sProp (MM F) :=
  iprop(work d i f ∗ ∃ fd fs, ⌜Done (groupDots f kv) n fd ∧ Done (groupSquares f) n fs⌝ ∗ results d i fd fs)

theorem compute_spec (O : CellTallies nD τ sig (HIx 1)) (W : Waits sig (HIx 1)) (p q : PosShare TreeShare)
    (fM : Vec F S16384x256 .f32) (fK : Vec F S256 .f32) (Q : PUnit → sProp (MM F)) :
    iprop(Transfers.MayWaits (thr d i) (none : HIx 1) O
      ∗ ((inRows i).view.loc (thr d i) ↦[(inRows i).view.set]{p} fM)
      ∗ ((inKeyW).view.loc (thr d i) ↦{q} fK)
      ∗ (∃ f, (keyW).view.loc (thr d i) ↦{fullShare} f)
      ∗ (∃ f, (rowsW).view.loc (thr d i) ↦{fullShare} f)
      ∗ lanesAny d i
      ∗ (∃ f g, results d i f g)
      ∗ semVal (thr d i, SemLoc.dma cc0_scratch6.sem) 0
      ∗ semVal (thr d i, SemLoc.dma cc0_scoped0.sem) 0
      ∗ owes (thr d i) O W
      ∗ (iprop(((inRows i).view.loc (thr d i) ↦[(inRows i).view.set]{p} fM)
      ∗ ((inKeyW).view.loc (thr d i) ↦{q} fK)
      ∗ (∃ f, (keyW).view.loc (thr d i) ↦{fullShare} f)
      ∗ (∃ f, (rowsW).view.loc (thr d i) ↦{fullShare} f)
      ∗ lanesAny d i
      ∗ (∃ fd fs, ⌜Done (groupDots ((inRows i).view.read (Elt F) fM) (keyPart fK)) 2 fd ∧ Done (groupSquares ((inRows i).view.read (Elt F) fM)) 2 fs⌝ ∗ results d i fd fs)
      ∗ semVal (thr d i, SemLoc.dma cc0_scratch6.sem) 0
      ∗ semVal (thr d i, SemLoc.dma cc0_scoped0.sem) 0
      ∗ owing d i O W) -∗ Q ⟨⟩))
    ⊢ wp frame (wpE (defs₀ (F := F)) 𝒱₀ (thr d i) none) Set.univ
        (compute i memoryW inKeyW (Memref.isWhole_whole _) keyW (Memref.isWhole_whole _) rowsW (Memref.isWhole_whole _) dotsW squaresW lanesW cc0_scratch6 cc0_scoped0) Q := by
  unfold compute
  iintro ⟨Hmw, HM, HK, ⟨%fk, Hk⟩, ⟨%fr, Hr⟩, HL, HR, Hs6, Hs0, HO, Hc⟩
  sl_exec
  have ew : View.write (Elt F) (keyW).view fk (compute_spec.sl.dma0_1 fK) Finset.univ = fK :=
    View.write_whole_univ (Val := Elt F) cc0_scratch0 fk _
  have ek : compute_spec.sl.r_32 d i fK fk = [0, 1, 2, 3, 4, 5, 6, 7, 8, 9, 10, 11, 12, 13, 14, 15].map (keyPart fK) := by
    refine Eq.trans ?_ (congrArg (fun f => List.map (keyPart f) _) ew)
    simp only [List.map_cons, List.map_nil, ← keyPart_eq]
    rfl
  have ekv : (fun j : Fin 16 => (compute_spec.sl.r_32 d i fK fk).getD j.val nought) = keyPart fK := by
    rw [ek]; funext j; fin_cases j <;> rfl
  have er : View.write (Elt F) (rowsW).view fr (compute_spec.sl.dma0 i fM) Finset.univ = (inRows i).view.read (Elt F) fM :=
    View.write_whole_univ (Val := Elt F) cc0_scratch1 fr _
  rw [ekv, er]
  icases HR with ⟨%fd, %fs, HR⟩
  sl_for (loopInv d i ((inRows i).view.read (Elt F) fM) (keyPart fK)) $$ [Hr HL HR]
  case region =>
    intro t _
    unfold loopInv
    iintro ⟨Hw, %fd, %fs, %hf, HR⟩
    rw [← bind_pure (compute_spec.sl.prog.body_1 i fK t _)]
    iapply (run_group (d := d) (i := i) ((inRows i).view.read (Elt F) fM) (keyPart fK) t fd fs).run $$ [Hw HR]
    · iframe
    iintro ⟨Hw, HR⟩
    rw [wp_pure]
    imodintro
    iframe
    iexists _, _
    iframe
    ipureintro
    exact ⟨hf.1.step (k0_off34 t) (off34_eq t) (k0_off34_inb t), hf.2.step (k0_off35 t) (off35_eq t) (k0_off35_inb t)⟩
  · unfold loopInv work
    iframe
    iexists fd, fs
    iframe
    ipureintro
    exact ⟨fun t _ h => absurd h (Nat.not_lt_zero _), fun t _ h => absurd h (Nat.not_lt_zero _)⟩
  iintro %_ HI
  unfold loopInv work
  icases HI with ⟨⟨Hr, HL⟩, %gd, %gs, %hg, HR⟩
  sl_exec
  rw [wp_ret]
  imodintro
  iapply Hc
  unfold owing
  isplitl [HM]
  · iexact HM
  isplitl [HK]
  · iexact HK
  isplitl [Hk]
  · iexists _
    iexact Hk
  isplitl [Hr]
  · iexists _
    iexact Hr
  isplitl [HL]
  · iexact HL
  isplitl [HR]
  · iexists gd, gs
    iframe
    ipureintro
    exact hg
  isplitl [Hs6]
  · iexact Hs6
  isplitl [Hs0]
  · iexact Hs0
  iexists _
  iframe
  ipureintro
  intro x hx
  rcases Finset.mem_insert.mp hx with rfl | hx
  · exact .inr rfl
  rcases Finset.mem_insert.mp hx with rfl | hx
  · exact .inr rfl
  exact .inl hx

theorem deliver_spec (O : CellTallies nD τ sig (HIx 1)) (W : Waits sig (HIx 1))
    (fd fs : Vec F S32 .f32) (hd hs : Vec F S1024 .f32) (Q : PUnit → sProp (MM F)) :
    iprop(Transfers.MayWaits (thr d i) (none : HIx 1) O
      ∗ results d i fd fs
      ∗ ((outDots i).view.loc (thr d i) ↦[(outDots i).view.set]{fullShare} hd)
      ∗ ((outSquares i).view.loc (thr d i) ↦[(outSquares i).view.set]{fullShare} hs)
      ∗ semVal (thr d i, SemLoc.dma cc0_scratch8.sem) 0
      ∗ semVal (thr d i, SemLoc.dma cc0_scratch9.sem) 0
      ∗ owes (thr d i) O W
      ∗ (iprop(results d i fd fs
      ∗ ((outDots i).view.loc (thr d i) ↦[(outDots i).view.set]{fullShare} (outDots i).view.writes (Elt F) hd [⟨Rect.whole S32, fd⟩])
      ∗ ((outSquares i).view.loc (thr d i) ↦[(outSquares i).view.set]{fullShare} (outSquares i).view.writes (Elt F) hs [⟨Rect.whole S32, fs⟩])
      ∗ semVal (thr d i, SemLoc.dma cc0_scratch8.sem) 0
      ∗ semVal (thr d i, SemLoc.dma cc0_scratch9.sem) 0
      ∗ owing d i O W) -∗ Q ⟨⟩))
    ⊢ wp frame (wpE (defs₀ (F := F)) 𝒱₀ (thr d i) none) Set.univ
        (deliver i outDotsW outSquaresW dotsW (Memref.isWhole_whole _) squaresW (Memref.isWhole_whole _) cc0_scratch8 cc0_scratch9) Q := by
  unfold deliver results
  iintro ⟨Hmw, ⟨HD, HS⟩, HU, HV, Hs0, Hs1, HO, Hc⟩
  sl_exec
  rw [wp_ret]
  imodintro
  iapply Hc
  unfold owing
  isplitl [HD HS]
  · isplitl [HD] <;> iassumption
  isplitl [HU]
  · iexact HU
  isplitl [HV]
  · iexact HV
  isplitl [Hs0]
  · iexact Hs0
  isplitl [Hs1]
  · iexact Hs1
  iexists _
  iframe
  ipureintro
  intro p hp
  rcases Finset.mem_insert.mp hp with rfl | hp
  · exact .inr rfl
  rcases Finset.mem_insert.mp hp with rfl | hp
  · exact .inr rfl
  exact .inl hp

end Body

end Cert.KernelIdeal.Tile
-- ==== Proof.Task.lean ====
/-
  The SparseCore call as the launch sees it: what a tile is handed and hands back, its body's triple, and
  how the call's operands are dealt among the tiles.
-/
module

public import proofs.«01_k».proof.Proof.Body

@[expose] public section

noncomputable section

namespace Cert.KernelIdeal.Tile

open Cert.KernelIdeal Cert.KernelIdeal.Gen
open Idealize.ShloMosaic Idealize.ShloMosaic.Tactic
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI Idealize.SL.Sem Idealize.SL.ProofMode
open scoped Idealize.SL.BI
open Idealize.SL.BI.BIBase Idealize.SL.BI.Laws

variable {F : FTy → Type} [FloatOps F]

/-! ## Values -/

/-- Block `w` of thirty-two rows. -/
def blockRows (fM : Vec F S16384x256 .f32) (w : Fin 32) : Vec F S32x256 .f32 :=
  fun x => fM (ix2 (n0 := 16384) (n1 := 256) ⟨32 * w.val + (x 0).val, by have hw := w.isLt; have hx : (x 0).val < 32 := (x 0).isLt; omega⟩ (x 1))

/-- The block, the group and the lane of an entry of the results. -/
def blockOf (x : S1024.Idx) : Fin 32 := ⟨(x 0).val / 32, by have hx : (x 0).val < 1024 := (x 0).isLt; omega⟩
def groupOf (x : S1024.Idx) : Fin k0_t1_loop.trips := ⟨(x 0).val % 32 / 16, by show _ < 2; omega⟩
def laneOf (x : S1024.Idx) : S16.Idx := ix1 (n0 := 16) ⟨(x 0).val % 16, by omega⟩

/-- The dot products the SparseCores leave. -/
def scDots (fM : Vec F S16384x256 .f32) (fK : Vec F S256 .f32) : Vec F S1024 .f32 :=
  fun x => groupDots (blockRows fM (blockOf x)) (keyPart fK) (groupOf x) (laneOf x)
/-- The sums of squares they leave. -/
def scSquares (fM : Vec F S16384x256 .f32) : Vec F S1024 .f32 :=
  fun x => groupSquares (blockRows fM (blockOf x)) (groupOf x) (laneOf x)

/-- The tile's number. -/
def wid (i : grid0.Coords) : Fin 32 := ⟨2 * (i 1).val + (i 0).val, by
  have h0 : (i 0).val < 2 := (i 0).isLt; have h1 : (i 1).val < 16 := (i 1).isLt; omega⟩

/-- The entries tile number `w` fills. -/
def outSet (w : Fin 32) : Finset S1024.Idx := Finset.univ.filter fun x => blockOf x = w

theorem base_eq (a : Fin 16) (b : Fin 2) :
    (Scalar.muli (Scalar.addi (Scalar.muli (BitVec.ofNat 32 a.val) 2#32) (BitVec.ofNat 32 b.val)) 32#32).toNat = 32 * (2 * a.val + b.val) := by
  revert a b; decide

theorem off1_eq (i : grid0.Coords) : k0_off1 i 0 = 32 * (wid i).val := base_eq (i 1) (i 0)
theorem off36_eq (i : grid0.Coords) : k0_off36 i 0 = 32 * (wid i).val := base_eq (i 1) (i 0)

theorem read_inRows (i : grid0.Coords) (fM : Vec F S16384x256 .f32) : (inRows i).view.read (Elt F) fM = blockRows fM (wid i) := by
  funext x
  refine congrArg fM (funext fun a => Fin.ext ?_)
  fin_cases a
  · show k0_off1 i 0 + 1 * (x 0).val = 32 * (wid i).val + (x 0).val
    rw [off1_eq]; omega
  · show k0_off1 i 1 + 1 * (x 1).val = (x 1).val
    show 0 + 1 * (x 1).val = (x 1).val
    omega

theorem set_outDots (i : grid0.Coords) : (outDots i).view.set = outSet (wid i) := by
  show ((View.whole main_v0_0_scv).slice (Rect.unit (s := S1024) (k0_off36 i) S32.size (k0_off36_inb i))).set = _
  rw [View.set_slice_whole]
  ext x
  rw [Rect.mem_set_unit]
  have hw := (wid i).isLt
  simp only [outSet, Finset.mem_filter, Finset.mem_univ, true_and, blockOf, Fin.ext_iff]
  constructor
  · intro h
    have h0 := h 0
    rw [off36_eq] at h0
    have h1 : (x 0).val < 32 * (wid i).val + 32 := h0.2
    omega
  · intro h a
    obtain rfl : a = 0 := Subsingleton.elim (α := Fin 1) _ _
    rw [off36_eq]
    refine ⟨by omega, ?_⟩
    show (x 0).val < 32 * (wid i).val + 32
    omega

theorem set_outSquares (i : grid0.Coords) : (outSquares i).view.set = outSet (wid i) := set_outDots i

/-- What the groups leave in a tile's own buffer is the tile's part of the result. -/
theorem Done.at {g : Fin k0_t1_loop.trips → FVec F S16 .f32} {fd : Vec F S32 .f32} (h : Done g 2 fd) (i : grid0.Coords) (l : S32.Idx) (x : S1024.Idx)
    (hx : (x 0).val = 32 * (wid i).val + (l 0).val) : blockOf x = wid i ∧ fd l = g (groupOf x) (laneOf x) := by
  have hl : (l 0).val < 32 := (l 0).isLt
  have hw := (wid i).isLt
  refine ⟨Fin.ext ?_, ?_⟩
  · show (x 0).val / 32 = (wid i).val
    omega
  · refine Eq.trans (congrArg fd (funext fun a => Fin.ext ?_)) (h (groupOf x) ⟨(x 0).val % 16, by omega⟩ (groupOf x).isLt)
    obtain rfl : a = 0 := Subsingleton.elim (α := Fin 1) _ _
    show (l 0).val = 16 * ((x 0).val % 32 / 16) + (x 0).val % 16
    omega

theorem emb_outDots (i : grid0.Coords) (l : S32.Idx) : ((outDots i).view.emb l 0).val = 32 * (wid i).val + (l 0).val := by
  show k0_off36 i 0 + 1 * (l 0).val = _
  rw [off36_eq]; omega
theorem emb_outSquares (i : grid0.Coords) (l : S32.Idx) : ((outSquares i).view.emb l 0).val = 32 * (wid i).val + (l 0).val := by
  show k0_off36 i 0 + 1 * (l 0).val = _
  rw [off36_eq]; omega

theorem left_dots (i : grid0.Coords) (fM : Vec F S16384x256 .f32) (fK : Vec F S256 .f32) (h : Vec F S1024 .f32) (fd : Vec F S32 .f32)
    (hd : Done (groupDots ((inRows i).view.read (Elt F) fM) (keyPart fK)) 2 fd) :
    ∀ x ∈ (outDots i).view.set, (outDots i).view.writes (Elt F) h [⟨Rect.whole S32, fd⟩] x = scDots fM fK x := by
  intro x hx
  obtain ⟨l, -, rfl⟩ := Finset.mem_map.mp hx
  obtain ⟨e, e'⟩ := hd.at i l _ (emb_outDots i l)
  refine (congrFun (View.read_writes_whole (outDots i).view h fd) l).trans (e'.trans ?_)
  rw [read_inRows, ← e]
  rfl

theorem left_squares (i : grid0.Coords) (fM : Vec F S16384x256 .f32) (h : Vec F S1024 .f32) (fs : Vec F S32 .f32)
    (hs : Done (groupSquares ((inRows i).view.read (Elt F) fM)) 2 fs) :
    ∀ x ∈ (outSquares i).view.set, (outSquares i).view.writes (Elt F) h [⟨Rect.whole S32, fs⟩] x = scSquares fM x := by
  intro x hx
  obtain ⟨l, -, rfl⟩ := Finset.mem_map.mp hx
  obtain ⟨e, e'⟩ := hs.at i l _ (emb_outSquares i l)
  refine (congrFun (View.read_writes_whole (outSquares i).view h fs) l).trans (e'.trans ?_)
  rw [read_inRows, ← e]
  rfl

/-! ## What a tile is handed and hands back -/

abbrev memLoc (d : Dev nD) : Loc nD τ sig := (T d : Thread nD τ).loc main_arg0
abbrev keyLoc (d : Dev nD) : Loc nD τ sig := (T d : Thread nD τ).loc main_arg1
abbrev dotsLoc (d : Dev nD) : Loc nD τ sig := (T d : Thread nD τ).loc main_v0_0
abbrev squaresLoc (d : Dev nD) : Loc nD τ sig := (T d : Thread nD τ).loc main_v0_1

/-- Shares of the memory and of the key, and the entries of the results, of tile number `w`. -/
def share (d : Dev nD) (fM : Vec F S16384x256 .f32) (fK : Vec F S256 .f32) (fd fs : Vec F S1024 .f32) (w : Fin 32) : sProp (MM F) :=
  iprop((memLoc d ↦{Transfers.shareTok fullShare 32 w} fM) ∗ (keyLoc d ↦{Transfers.shareTok fullShare 32 w} fK)
    ∗ (dotsLoc d ↦[outSet w]{fullShare} fd) ∗ (squaresLoc d ↦[outSet w]{fullShare} fs))

section Body

variable (d : Dev nD) (i : grid0.Coords)

theorem ownSems0_V : (ownSems0 (thr d i) : sProp (MM F))
    = iprop(semVal (thr d i, SemLoc.dma cc0_scratch6.sem) 0 ∗ semVal (thr d i, SemLoc.dma cc0_scratch8.sem) 0
      ∗ semVal (thr d i, SemLoc.dma cc0_scratch9.sem) 0 ∗ semVal (thr d i, SemLoc.dma cc0_scoped0.sem) 0
      ∗ bigSep (((((ownCells (thr d i)).erase (thr d i, SemLoc.dma cc0_scratch6.sem)).erase (thr d i, SemLoc.dma cc0_scratch8.sem)).erase
          (thr d i, SemLoc.dma cc0_scratch9.sem)).erase (thr d i, SemLoc.dma cc0_scoped0.sem)) fun g => semVal g 0) := by
  unfold SparseCore.Cfg.ownSems0
  have hm (s : SemLoc sig) (h : s.isScoped .scVector = true) : ((thr d i, s) : GSem nD τ sig) ∈ ownCells (thr d i) := mem_ownCells.mpr ⟨rfl, h⟩
  have hn {s s' : SemLoc sig} (h : s ≠ s') : ((thr d i, s) : GSem nD τ sig) ≠ (thr d i, s') := fun e => h (Prod.mk.inj e).2
  rw [SparseCore.bigSep_erase' (hm (SemLoc.dma cc0_scratch6.sem) (by decide)),
    SparseCore.bigSep_erase' (Finset.mem_erase.mpr ⟨hn (by decide), hm (SemLoc.dma cc0_scratch8.sem) (by decide)⟩),
    SparseCore.bigSep_erase' (Finset.mem_erase.mpr ⟨hn (by decide), Finset.mem_erase.mpr ⟨hn (by decide), hm (SemLoc.dma cc0_scratch9.sem) (by decide)⟩⟩),
    SparseCore.bigSep_erase' (Finset.mem_erase.mpr ⟨hn (by decide), Finset.mem_erase.mpr ⟨hn (by decide), Finset.mem_erase.mpr ⟨hn (by decide),
      hm (SemLoc.dma cc0_scoped0.sem) (by decide)⟩⟩⟩)]

/-- A tile's own buffer, as the launch names it. -/
abbrev ref (b : Ref sig .scVector) : DevRef τ sig := (thr d i).2.devRef b

theorem ownBufs_V : (ownBufs (thr d i) : sProp (MM F))
    = iprop((∃ f, (thr d i).loc cc0_scratch0 ↦{fullShare} f) ∗ (∃ f, (thr d i).loc cc0_scratch1 ↦{fullShare} f)
      ∗ (∃ f, (thr d i).loc cc0_scratch3 ↦{fullShare} f) ∗ (∃ f, (thr d i).loc cc0_scratch4 ↦{fullShare} f)
      ∗ (∃ f, (thr d i).loc cc0_scratch5 ↦{fullShare} f)
      ∗ bigSep ((((((ownRefs (τ := τ) (thr d i).2).erase (ref d i cc0_scratch0)).erase (ref d i cc0_scratch1)).erase (ref d i cc0_scratch3)).erase
          (ref d i cc0_scratch4)).erase (ref d i cc0_scratch5)) fun b => iprop(∃ f, ((d, b) : Loc nD τ sig) ↦{fullShare} f)) := by
  unfold SparseCore.Cfg.ownBufs
  have hn {b b' : Ref sig .scVector} (h : b ≠ b') : ref d i b ≠ ref d i b' := fun e => h (Proc.devRef_injective _ e)
  have h0 : ref d i cc0_scratch0 ∈ ownRefs (τ := τ) (thr d i).2 := mem_ownRefs_of_owner rfl
  have h1 : ref d i cc0_scratch1 ∈ ownRefs (τ := τ) (thr d i).2 := mem_ownRefs_of_owner rfl
  have h3 : ref d i cc0_scratch3 ∈ ownRefs (τ := τ) (thr d i).2 := mem_ownRefs_of_owner rfl
  have h4 : ref d i cc0_scratch4 ∈ ownRefs (τ := τ) (thr d i).2 := mem_ownRefs_of_owner rfl
  have h5 : ref d i cc0_scratch5 ∈ ownRefs (τ := τ) (thr d i).2 := mem_ownRefs_of_owner rfl
  refine (SparseCore.bigSep_erase' h0).trans ?_
  rw [SparseCore.bigSep_erase' (Finset.mem_erase.mpr ⟨hn (show cc0_scratch1 ≠ cc0_scratch0 by decide), h1⟩),
    SparseCore.bigSep_erase' (Finset.mem_erase.mpr ⟨hn (show cc0_scratch3 ≠ cc0_scratch1 by decide), Finset.mem_erase.mpr ⟨hn (show cc0_scratch3 ≠ cc0_scratch0 by decide), h3⟩⟩),
    SparseCore.bigSep_erase' (Finset.mem_erase.mpr ⟨hn (show cc0_scratch4 ≠ cc0_scratch3 by decide), Finset.mem_erase.mpr ⟨hn (show cc0_scratch4 ≠ cc0_scratch1 by decide),
      Finset.mem_erase.mpr ⟨hn (show cc0_scratch4 ≠ cc0_scratch0 by decide), h4⟩⟩⟩),
    SparseCore.bigSep_erase' (Finset.mem_erase.mpr ⟨hn (show cc0_scratch5 ≠ cc0_scratch4 by decide), Finset.mem_erase.mpr ⟨hn (show cc0_scratch5 ≠ cc0_scratch3 by decide),
      Finset.mem_erase.mpr ⟨hn (show cc0_scratch5 ≠ cc0_scratch1 by decide), Finset.mem_erase.mpr ⟨hn (show cc0_scratch5 ≠ cc0_scratch0 by decide), h5⟩⟩⟩⟩)]

/-- The task of tile `i`: its part of the results is filled. -/
theorem tile_body (fM : Vec F S16384x256 .f32) (fK : Vec F S256 .f32) (hd hs : Vec F S1024 .f32)
    (O : CellTallies nD τ sig (HIx 1)) (W : Waits sig (HIx 1)) (hO : ∀ g, O g none = 0) :
    iprop(levAts (K (F := F)).L (K (F := F)).lev ∗ emp ∗ share d fM fK hd hs (wid i)
        ∗ scopedBufs (thr d i) ∗ scopedSems0 (thr d i) ∗ owes (thr d i) O W)
      ⊢ wp frame (wpE (defs₀ (F := F)) 𝒱₀ (thr d i) none) Set.univ
          (cc0__sc_phase1 i memoryW (Memref.isWhole_whole _) inKeyW (Memref.isWhole_whole _) outDotsW (Memref.isWhole_whole _) outSquaresW (Memref.isWhole_whole _)
            keyW (Memref.isWhole_whole _) rowsW (Memref.isWhole_whole _) (Memref.whole cc0_scratch2) (Memref.isWhole_whole _) dotsW (Memref.isWhole_whole _)
            squaresW (Memref.isWhole_whole _) lanesW (Memref.isWhole_whole _) cc0_scratch6 cc0_scratch7 cc0_scratch8 cc0_scratch9 cc0_scoped0)
          fun _ => iprop(share d fM fK (scDots fM fK) (scSquares fM) (wid i) ∗ scopedBufs (thr d i) ∗ scopedSems0 (thr d i) ∗ owing d i O W) := by
  rw [task_eq, (K (F := F)).scopedBufs_V facts d _ _, SparseCore.Cfg.scopedSems0_V (Val := Elt F) d _ _, ownSems0_V, ownBufs_V]
  unfold share
  iintro ⟨#Hlv, -, ⟨HM, HK, HU, HV⟩, ⟨Hk, Hr, ⟨%f3, HD⟩, ⟨%f4, HS⟩, HL, Hbufs⟩, ⟨Hs6, Hs8, Hs9, Hs0, Hsems⟩, HO⟩
  ihave Hmw := ((K (F := F)).mayWaits_none (thr := thr d i) hO) $$ Hlv
  icases ((pointsTo_split_subset (Finset.subset_univ (inRows i).view.set)).1) $$ HM with ⟨HM, HM'⟩
  rw [wp_bind, ← set_outDots]
  iapply (compute_spec d i O W (Transfers.shareTok fullShare 32 (wid i)) (Transfers.shareTok fullShare 32 (wid i)) fM fK _)
  isplitr
  · iexact Hmw
  isplitl [HM]
  · iexact HM
  isplitl [HK]
  · iexact HK
  isplitl [Hk]
  · iexact Hk
  isplitl [Hr]
  · iexact Hr
  isplitl [HL]
  · unfold lanesAny
    iexact HL
  isplitl [HD HS]
  · iexists f3, f4
    unfold results
    isplitl [HD]
    · iexact HD
    iexact HS
  isplitl [Hs6]
  · iexact Hs6
  isplitl [Hs0]
  · iexact Hs0
  isplitl [HO]
  · iexact HO
  iintro ⟨HM, HK, Hk, Hr, HL, ⟨%gd, %gs, %hg, HR⟩, Hs6, Hs0, HO⟩
  unfold owing
  icases HO with ⟨%W1, %hW1, HO⟩
  iapply (deliver_spec d i O W1 gd gs hd hs _)
  isplitr
  · iexact Hmw
  isplitl [HR]
  · iexact HR
  isplitl [HU]
  · iexact HU
  isplitl [HV]
  · rw [set_outSquares, ← set_outDots]
    iexact HV
  isplitl [Hs8]
  · iexact Hs8
  isplitl [Hs9]
  · iexact Hs9
  isplitl [HO]
  · iexact HO
  iintro ⟨HR, HU, HV, Hs8, Hs9, HO⟩
  unfold owing results
  icases HO with ⟨%W2, %hW2, HO⟩
  icases HR with ⟨HD, HS⟩
  ihave HM := ((pointsTo_split_subset (ℓ := memLoc d) (f := fM) (q := Transfers.shareTok fullShare 32 (wid i)) (Finset.subset_univ (inRows i).view.set)).2) $$ [HM HM']
  · isplitl [HM]
    · iexact HM
    iexact HM'
  ihave HU := (Entails.of_eq (pointsTo_congr (left_dots i fM fK hd gd hg.1))) $$ HU
  ihave HV := (Entails.of_eq (pointsTo_congr (left_squares i fM hs gs hg.2))) $$ HV
  isplitl [HM HK HU HV]
  · isplitl [HM]
    · iexact HM
    isplitl [HK]
    · iexact HK
    isplitl [HU]
    · iexact HU
    rw [set_outDots, ← set_outSquares]
    iexact HV
  isplitl [Hk Hr HD HS HL Hbufs]
  · isplitl [Hk]
    · iexact Hk
    isplitl [Hr]
    · iexact Hr
    isplitl [HD]
    · iexists _
      iexact HD
    isplitl [HS]
    · iexists _
      iexact HS
    isplitl [HL]
    · unfold lanesAny
      iexact HL
    iexact Hbufs
  isplitl [Hs6 Hs8 Hs9 Hs0 Hsems]
  · isplitl [Hs6]
    · iexact Hs6
    isplitl [Hs8]
    · iexact Hs8
    isplitl [Hs9]
    · iexact Hs9
    isplitl [Hs0]
    · iexact Hs0
    iexact Hsems
  iexists W2
  isplitr
  · ipureintro
    intro x hx
    exact (hW2 x hx).elim (hW1 x) .inr
  iexact HO

end Body

/-! ## The launch's obligations -/

section Obligations

variable (m : (ℓ : Loc nD τ sig) → Buf (Elt F) ℓ)

def coordsOf (c : Fin (grid0.bound 0)) (s : Fin (grid0.bound 1)) : grid0.Coords :=
  fun | 0 => c | 1 => s | ⟨_ + 2, h⟩ => absurd h (Nat.not_lt.2 (Nat.le_add_left _ _))

/-- What tile `(c, s)` is handed, and what it hands back. -/
def hands (d : Dev nD) (c : Fin (grid0.bound 0)) (s : Fin (grid0.bound 1)) : sProp (MM F) :=
  share d (m (memLoc d)) (m (keyLoc d)) (m (dotsLoc d)) (m (squaresLoc d)) (wid (coordsOf c s))
def takes (d : Dev nD) (c : Fin (grid0.bound 0)) (s : Fin (grid0.bound 1)) : sProp (MM F) :=
  share d (m (memLoc d)) (m (keyLoc d)) (scDots (m (memLoc d)) (m (keyLoc d))) (scSquares (m (memLoc d))) (wid (coordsOf c s))

/-- The one call hands each SparseCore what its tiles are handed. -/
def P : (K (F := F)).Pay (nD := nD) (Val := Elt F) (Name := ℕ) (U := UU) where
  st := fun q d c => match q with | 0 => bigSep Finset.univ fun s : Fin (grid0.bound 1) => hands m d c s
  dn := fun q d c => match q with | 0 => bigSep Finset.univ fun s : Fin (grid0.bound 1) => takes m d c s
  go := fun q d c s => match q with | 0 => hands m d c s
  td := fun q d c s => match q with | 0 => takes m d c s
  x := fun _ _ => iprop(emp)

instance hands_storable (d : Dev nD) (c : Fin (grid0.bound 0)) (s : Fin (grid0.bound 1)) : BI.Storable (upEmb : UEmb _ (MM F)) (hands m d c s) := by
  unfold hands share; infer_instance
instance takes_storable (d : Dev nD) (c : Fin (grid0.bound 0)) (s : Fin (grid0.bound 1)) : BI.Storable (upEmb : UEmb _ (MM F)) (takes m d c s) := by
  unfold takes share; infer_instance

theorem handsAll_storable (d : Dev nD) (c : Fin (grid0.bound 0)) :
    BI.Storable (upEmb : UEmb _ (MM F)) (bigSep Finset.univ fun s : Fin (grid0.bound 1) => hands m d c s) := inferInstance
theorem takesAll_storable (d : Dev nD) (c : Fin (grid0.bound 0)) :
    BI.Storable (upEmb : UEmb _ (MM F)) (bigSep Finset.univ fun s : Fin (grid0.bound 1) => takes m d c s) := inferInstance

instance P_storable : (P m).IsStorable where
  st q d c := match q with | 0 => handsAll_storable m d c
  dn q d c := match q with | 0 => takesAll_storable m d c
  go q d c s := match q with | 0 => hands_storable m d c s
  td q d c s := match q with | 0 => takes_storable m d c s

theorem post_weaken {t : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') :=
  sep_mono_right (sep_mono_right (sep_mono_right (exists_mono fun _ => sep_mono_left (Laws.pure_mono fun h p hp => (h p hp).imp_right Or.inl))))

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  simp only [defs₀, SparseCore.onTile, hc, and_self, ↓reduceDIte]
  exact (tile_body d (coordsOf ⟨_, hc.1⟩ ⟨_, hc.2⟩) (m (memLoc d)) (m (keyLoc d)) (m (dotsLoc d)) (m (squaresLoc d)) O W hO).trans (wp_mono frame _ _ fun _ => post_weaken)

theorem vecSplit : (K (F := F)).VecSplit' (P m) 0 := by
  intro d c
  show (bigSep Finset.univ fun s : Fin (grid0.bound 1) => hands m d c s)
    ⊢ |={Set.univ}=> iprop((bigSep Finset.univ fun s : Fin (grid0.bound 1) => hands m d c s)
      ∗ ((bigSep Finset.univ fun s : Fin (grid0.bound 1) => takes m d c s) -∗ bigSep Finset.univ fun s : Fin (grid0.bound 1) => takes m d c s))
  iintro H
  imodintro
  isplitl [H]
  · iexact H
  iintro H
  iexact H

end Obligations

end Cert.KernelIdeal.Tile
-- ==== Proof.Dense.lean ====
/-
  The two TensorCore calls of the kernel, each run at any contents of its arrays: the bodies, what
  they leave in the staging buffers, and the proof data of their pipelines.
-/
module

public import proofs.«01_k».proof.Proof.Setup
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Dense

open Cert.KernelIdeal Cert.KernelIdeal.Gen Cert.KernelIdeal.Tile
open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Contents of every buffer a TensorCore sees. -/
abbrev Contents (F : FTy → Type) : Type := (c : Dev nD) → (b : Ref sig .tc) → Buf (Elt F) ((c : Thread nD τ).loc b)

/-- Proof data of a pipeline of this program. -/
abbrev Data (F : FTy → Type) (cfg : Cfg sig Λ₀) (c : Dev nD) := Dat τ (Elt F) (HIx 1) ℕ UU ℕ cfg c

/-- The waits a TensorCore may have recorded once the SparseCore call is over. -/
def past (c : Dev nD) : Set (SemLoc sig × HIx 1) := {p | (K (F := F)).lev (N := 1) (T c, p.1) p.2 ≤ 8}

/-! ## The inner products and sums of squares of a block of rows -/

abbrev rowsRect : Rect S1024x256 := Rect.unit (s := S1024x256) ![0, 0] S1024x256.size inb_S1024x256_S1024x256_0_0
abbrev keysRect : Rect S256x8 := Rect.unit (s := S256x8) ![0, 0] S256x8.size inb_S256x8_S256x8_0_0
abbrev sumsRect : Rect S1x1x1024 := Rect.unit (s := S1x1x1024) ![0, 0, 0] S1x1x1024.size inb_S1x1x1024_S1x1x1024_0_0_0

/-- The block of inner products. -/
def dotsBlock (x0 : Vec F S1024x256 .f32) (x1 : Vec F S256x8 .f32) : Vec F S1x1x1024 .f32 :=
  View.canon [⟨sumsRect, k1_pay1 (View.ld x0 rowsRect) (View.ld x1 keysRect)⟩]

/-- The block of sums of squares. -/
def squaresBlock (x0 : Vec F S1024x256 .f32) : Vec F S1x1x1024 .f32 :=
  View.canon [⟨sumsRect, k1_pay2 (View.ld x0 rowsRect)⟩]

theorem sums_cover (p : Vec F S1x1x1024 .f32) (y : S1x1x1024.Idx) :
    ∃ pc ∈ ([⟨sumsRect, p⟩] : List (View.Piece (Elt F) S1x1x1024 .f32)), y ∈ pc.1.set :=
  View.cover_of_tiled [⟨sumsRect, p⟩] S1x1x1024.size (by rfl) y

set_option maxHeartbeats 1000000 in
theorem sums_body (c : Dev nD) (E : Set ℕ) (i : grid1.Coords) (a1 : Memref sig .tc .vmem S1024x256 .f32) (h1 : a1.IsWhole)
    (a2 : Memref sig .tc .vmem S256x8 .f32) (h2 : a2.IsWhole) (a3 : Memref sig .tc .vmem S1x1x1024 .f32) (h3 : a3.IsWhole)
    (a4 : Memref sig .tc .vmem S1x1x1024 .f32) (h4 : a4.IsWhole) (x0 : Vec F S1024x256 .f32) (x1 : Vec F S256x8 .f32) (Q : PUnit → sProp (MM F)) :
    iprop(owns (c : Thread nD τ) a1 fullShare x0 ∗ owns (c : Thread nD τ) a2 fullShare x1
        ∗ (∃ d, owns (c : Thread nD τ) a3 fullShare d) ∗ (∃ d, owns (c : Thread nD τ) a4 fullShare d)
        ∗ (iprop(owns (c : Thread nD τ) a1 fullShare x0 ∗ owns (c : Thread nD τ) a2 fullShare x1
            ∗ owns (c : Thread nD τ) a3 fullShare (dotsBlock x0 x1) ∗ owns (c : Thread nD τ) a4 fullShare (squaresBlock x0)) -∗ Q ⟨⟩))
      ⊢ wp frame (wpE (defs₀ (F := F)) Variants.none c none) E (cc1__tc_phase1b i a1 h1 a2 h2 a3 h3 a4 h4) Q := by
  simp only [cc1__tc_phase1b_eq_skeleton]; unfold cc1__tc_phase1b_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (sums_cover _)
  iexists _; isplitr
  swap; · iexact H3
  ipureintro
  exact View.read_writes_eq_canon _ _ _ (sums_cover _)

section Sums

variable (V : Contents F)

/-- The part of window `w`'s array at step `t`. -/
def part1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def data1 (c : Dev nD) : Data F cfg1 c where
  A w := V c (Pipeline.arrRef spec1 w)
  after w t := match w with
    | ⟨0, _⟩ => part1 V c 0 t
    | ⟨1, _⟩ => part1 V c 1 t
    | ⟨2, _⟩ => dotsBlock (part1 V c 0 t) (part1 V c 1 t)
    | ⟨3, _⟩ => squaresBlock (part1 V c 0 t)
  Φ _ := iprop(Pipeline.scopedRest spec1 c ∗ ∃ r, prngReg c r)
  q _ := fullShare
  owed _ := 0
  recorded _ := past (F := F) c

theorem data1_A (c : Dev nD) (w : Fin cfg1.W) : (data1 V c).A w = V c (Pipeline.arrRef spec1 w) := by dsimp only [data1]

theorem after1_rows (c : Dev nD) (t : Fin cfg1.N) : (data1 V c).after 0 t = part1 V c 0 t := by dsimp only [data1]
theorem after1_keys (c : Dev nD) (t : Fin cfg1.N) : (data1 V c).after 1 t = part1 V c 1 t := by dsimp only [data1]
theorem after1_dots (c : Dev nD) (t : Fin cfg1.N) : (data1 V c).after 2 t = dotsBlock (part1 V c 0 t) (part1 V c 1 t) := by dsimp only [data1]
theorem after1_squares (c : Dev nD) (t : Fin cfg1.N) : (data1 V c).after 3 t = squaresBlock (part1 V c 0 t) := by dsimp only [data1]

theorem before1_rows (c : Dev nD) (t : Fin cfg1.N) (d) : (data1 V c).before 0 t d = part1 V c 0 t :=
  ((data1 V c).before_in_eq_fetched 0 rfl (fun _ => rfl) (fun _ _ _ => rfl) (fun t => by rw [after1_rows]; rfl) t d).trans rfl
theorem before1_keys (c : Dev nD) (t : Fin cfg1.N) (d) : (data1 V c).before 1 t d = part1 V c 1 t :=
  ((data1 V c).before_in_eq_fetched 1 rfl (fun _ => rfl) (fun _ _ _ => rfl) (fun t => by rw [after1_keys]; rfl) t d).trans rfl

/-- What the body is handed at step `t`, window by window. -/
def given1 (c : Dev nD) (t : Fin cfg1.N) : sProp (MM F) :=
  iprop((data1 V c).Φ t.castSucc ∗ (data1 V c).owesAt none t.castSucc
    ∗ (∃ d, owns (c : Thread nD τ) (st1_0 t) fullShare ((data1 V c).before 0 t d))
    ∗ (∃ d, owns (c : Thread nD τ) (st1_1 t) fullShare ((data1 V c).before 1 t d))
    ∗ (∃ d, owns (c : Thread nD τ) (st1_2 t) fullShare ((data1 V c).before 2 t d))
    ∗ (∃ d, owns (c : Thread nD τ) (st1_3 t) fullShare ((data1 V c).before 3 t d)))

/-- What it hands back. -/
def left1 (c : Dev nD) (t : Fin cfg1.N) : sProp (MM F) :=
  iprop((data1 V c).Φ t.succ ∗ (data1 V c).owesAt none t.succ
    ∗ owns (c : Thread nD τ) (st1_0 t) fullShare ((data1 V c).after 0 t)
    ∗ owns (c : Thread nD τ) (st1_1 t) fullShare ((data1 V c).after 1 t)
    ∗ owns (c : Thread nD τ) (st1_2 t) fullShare ((data1 V c).after 2 t)
    ∗ owns (c : Thread nD τ) (st1_3 t) fullShare ((data1 V c).after 3 t))

theorem sums_step (c : Dev nD) (t : Fin cfg1.N) :
    given1 V c t ⊢ wp frame (wpE (defs₀ (F := F)) Variants.none c none) Set.univ (bodyAt1 t) (fun _ => left1 V c t) := by
  unfold given1 left1 bodyAt1
  simp only [before1_rows, before1_keys]
  rw [show (data1 V c).Φ t.succ = (data1 V c).Φ t.castSucc from rfl,
    show (data1 V c).owesAt none t.succ = (data1 V c).owesAt none t.castSucc from rfl,
    after1_rows, after1_keys, after1_dots, after1_squares]
  iintro ⟨HΦ, Ho, ⟨%d0, H0⟩, ⟨%d1, H1⟩, ⟨%d2, H2⟩, ⟨%d3, H3⟩⟩
  iapply (sums_body c Set.univ (grid1.coords t) _ _ _ _ _ _ _ _ (part1 V c 0 t) (part1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem row1 (t : Fin cfg1.N) : defs₀ (F := F) .tc cfg1.body (cfg1.bodyArgs t (cfg1.slots t)) = bodyAt1 t := by
  rfl

theorem obligation1 (c : Dev nD) : BodyObligation (data1 (F := F) V c) (defs₀ (F := F)) Variants.none none Set.univ := fun t => by
  rw [bigSep_W1, bigSep_W1, row1]
  exact triple_restated (sums_step V c t) rfl .rfl fun _ => .rfl

end Sums

/-! ## The softmax over both parts and the gates -/

abbrev scRect : Rect S8x128 := Rect.unit (s := S8x128) ![0, 0] S8x128.size inb_S8x128_S8x128_0_0
abbrev tcRect : Rect S120x128 := Rect.unit (s := S120x128) ![0, 0] S120x128.size inb_S120x128_S120x128_0_0
abbrev keyRect : Rect S2x128 := Rect.unit (s := S2x128) ![0, 0] S2x128.size inb_S2x128_S2x128_0_0
abbrev gateRect : Rect S1x1 := Rect.unit (s := S1x1) ![0, 0] S1x1.size inb_S1x1_S1x1_0_0
abbrev wholeRect : Rect S128x128 := Rect.unit (s := S128x128) ![0, 0] S128x128.size inb_S128x128_S128x128_0_0
abbrev topRect : Rect S128x128 := Rect.unit (s := S128x128) ![0, 0] S8x128.size inb_S128x128_S8x128_0_0
abbrev restRect : Rect S128x128 := Rect.unit (s := S128x128) ![8, 0] S120x128.size inb_S128x128_S120x128_8_0

/-- The two stores of the second body, the later one first. -/
abbrev stores2 (x0 x1 : Vec F S8x128 .f32) (x2 x3 : Vec F S120x128 .f32) (x4 : Vec F S2x128 .f32) (x5 x6 x7 : Vec F S1x1 .f32)
    (x8 : Vec F S128x128 .f32) : List (View.Piece (Elt F) S128x128 .f32) :=
  [⟨restRect, k2_pay8 (k2_pay11 (View.ld x6 gateRect)) (k2_pay12 (View.ld x7 gateRect))
      (k2_pay13 (View.ld x4 keyRect) (View.ld x5 gateRect) (View.ld x0 scRect) (View.ld x1 scRect))
      (k2_pay14 (View.ld x4 keyRect) (View.ld x5 gateRect) (View.ld x2 tcRect) (View.ld x3 tcRect))
      (k2_pay15 (View.ld x4 keyRect) (View.ld x5 gateRect) (View.ld x0 scRect) (View.ld x1 scRect)) (View.ld x8 wholeRect)⟩,
   ⟨topRect, k2_pay7 (k2_pay11 (View.ld x6 gateRect)) (k2_pay12 (View.ld x7 gateRect))
      (k2_pay13 (View.ld x4 keyRect) (View.ld x5 gateRect) (View.ld x0 scRect) (View.ld x1 scRect))
      (k2_pay14 (View.ld x4 keyRect) (View.ld x5 gateRect) (View.ld x2 tcRect) (View.ld x3 tcRect))
      (k2_pay15 (View.ld x4 keyRect) (View.ld x5 gateRect) (View.ld x0 scRect) (View.ld x1 scRect)) (View.ld x8 wholeRect)⟩]

/-- The block of results. -/
def weightsBlock (x0 x1 : Vec F S8x128 .f32) (x2 x3 : Vec F S120x128 .f32) (x4 : Vec F S2x128 .f32) (x5 x6 x7 : Vec F S1x1 .f32)
    (x8 : Vec F S128x128 .f32) : Vec F S128x128 .f32 := View.canon (stores2 x0 x1 x2 x3 x4 x5 x6 x7 x8)

theorem weights_cover (p : Vec F S120x128 .f32) (p' : Vec F S8x128 .f32) (y : S128x128.Idx) :
    ∃ pc ∈ ([⟨restRect, p⟩, ⟨topRect, p'⟩] : List (View.Piece (Elt F) S128x128 .f32)), y ∈ pc.1.set :=
  View.cover_of_tiledBy [⟨restRect, p⟩, ⟨topRect, p'⟩] ![8, 128] (by sl_kernel_rfl) y

set_option maxHeartbeats 1000000 in
theorem weights_body (c : Dev nD) (E : Set ℕ) (a0 : Memref sig .tc .vmem S8x128 .f32) (h0 : a0.IsWhole) (a1 : Memref sig .tc .vmem S8x128 .f32) (h1 : a1.IsWhole)
    (a2 : Memref sig .tc .vmem S120x128 .f32) (h2 : a2.IsWhole) (a3 : Memref sig .tc .vmem S120x128 .f32) (h3 : a3.IsWhole)
    (a4 : Memref sig .tc .vmem S2x128 .f32) (h4 : a4.IsWhole) (a5 : Memref sig .tc .vmem S1x1 .f32) (h5 : a5.IsWhole)
    (a6 : Memref sig .tc .vmem S1x1 .f32) (h6 : a6.IsWhole) (a7 : Memref sig .tc .vmem S1x1 .f32) (h7 : a7.IsWhole)
    (a8 : Memref sig .tc .vmem S128x128 .f32) (h8 : a8.IsWhole) (a9 : Memref sig .tc .vmem S128x128 .f32) (h9 : a9.IsWhole)
    (x0 x1 : Vec F S8x128 .f32) (x2 x3 : Vec F S120x128 .f32) (x4 : Vec F S2x128 .f32) (x5 x6 x7 : Vec F S1x1 .f32) (x8 : Vec F S128x128 .f32)
    (Q : PUnit → sProp (MM F)) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ (∃ d, owns (c : Thread nD τ) a9 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7 ∗ owns (c : Thread nD τ) a8 fullShare x8
            ∗ owns (c : Thread nD τ) a9 fullShare (weightsBlock x0 x1 x2 x3 x4 x5 x6 x7 x8)) -∗ Q ⟨⟩))
      ⊢ wp frame (wpE (defs₀ (F := F)) Variants.none c none) E (cc2__tc_phase2 a0 h0 a1 h1 a2 h2 a3 h3 a4 h4 a5 h5 a6 h6 a7 h7 a8 h8 a9 h9) Q := by
  simp only [cc2__tc_phase2_eq_skeleton]; unfold cc2__tc_phase2_skel
  simp only [k2_part1_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e0 e1 e2 e3 e4 e5 e6 e7 e8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (weights_cover _ _)

section Weights

variable (V : Contents F)

/-- The part of window `w`'s array at the only step. -/
def part2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def data2 (c : Dev nD) : Data F cfg2 c where
  A w := V c (Pipeline.arrRef spec2 w)
  after w t := match w with
    | ⟨0, _⟩ => part2 V c 0 t
    | ⟨1, _⟩ => part2 V c 1 t
    | ⟨2, _⟩ => part2 V c 2 t
    | ⟨3, _⟩ => part2 V c 3 t
    | ⟨4, _⟩ => part2 V c 4 t
    | ⟨5, _⟩ => part2 V c 5 t
    | ⟨6, _⟩ => part2 V c 6 t
    | ⟨7, _⟩ => part2 V c 7 t
    | ⟨8, _⟩ => part2 V c 8 t
    | ⟨9, _⟩ => weightsBlock (part2 V c 0 t) (part2 V c 1 t) (part2 V c 2 t) (part2 V c 3 t) (part2 V c 4 t) (part2 V c 5 t) (part2 V c 6 t)
        (part2 V c 7 t) (part2 V c 8 t)
  Φ _ := iprop(Pipeline.scopedRest spec2 c ∗ ∃ r, prngReg c r)
  q _ := fullShare
  owed _ := 0
  recorded _ := past (F := F) c

theorem data2_A (c : Dev nD) (w : Fin cfg2.W) : (data2 V c).A w = V c (Pipeline.arrRef spec2 w) := by dsimp only [data2]

theorem after2_out (c : Dev nD) (t : Fin cfg2.N) : (data2 V c).after 9 t = weightsBlock (part2 V c 0 t) (part2 V c 1 t) (part2 V c 2 t) (part2 V c 3 t)
    (part2 V c 4 t) (part2 V c 5 t) (part2 V c 6 t) (part2 V c 7 t) (part2 V c 8 t) := by dsimp only [data2]

/-- The operands' buffers hold the parts fetched. -/
theorem before2_in (c : Dev nD) (t : Fin cfg2.N) :
    (∀ d, (data2 V c).before 0 t d = part2 V c 0 t) ∧ (∀ d, (data2 V c).before 1 t d = part2 V c 1 t) ∧ (∀ d, (data2 V c).before 2 t d = part2 V c 2 t)
    ∧ (∀ d, (data2 V c).before 3 t d = part2 V c 3 t) ∧ (∀ d, (data2 V c).before 4 t d = part2 V c 4 t) ∧ (∀ d, (data2 V c).before 5 t d = part2 V c 5 t)
    ∧ (∀ d, (data2 V c).before 6 t d = part2 V c 6 t) ∧ (∀ d, (data2 V c).before 7 t d = part2 V c 7 t) ∧ (∀ d, (data2 V c).before 8 t d = part2 V c 8 t) := by
  refine ⟨?_, ?_, ?_, ?_, ?_, ?_, ?_, ?_, ?_⟩ <;> intro d <;>
    exact ((data2 V c).before_in_eq_fetched _ rfl (fun _ => rfl) (fun _ _ _ => rfl) (fun _ => rfl) t d).trans rfl

/-- What the body is handed, window by window. -/
def given2 (c : Dev nD) (t : Fin cfg2.N) : sProp (MM F) :=
  iprop((data2 V c).Φ t.castSucc ∗ (data2 V c).owesAt none t.castSucc
    ∗ (∃ d, owns (c : Thread nD τ) (st2_0 t) fullShare ((data2 V c).before 0 t d))
    ∗ (∃ d, owns (c : Thread nD τ) (st2_1 t) fullShare ((data2 V c).before 1 t d))
    ∗ (∃ d, owns (c : Thread nD τ) (st2_2 t) fullShare ((data2 V c).before 2 t d))
    ∗ (∃ d, owns (c : Thread nD τ) (st2_3 t) fullShare ((data2 V c).before 3 t d))
    ∗ (∃ d, owns (c : Thread nD τ) (st2_4 t) fullShare ((data2 V c).before 4 t d))
    ∗ (∃ d, owns (c : Thread nD τ) (st2_5 t) fullShare ((data2 V c).before 5 t d))
    ∗ (∃ d, owns (c : Thread nD τ) (st2_6 t) fullShare ((data2 V c).before 6 t d))
    ∗ (∃ d, owns (c : Thread nD τ) (st2_7 t) fullShare ((data2 V c).before 7 t d))
    ∗ (∃ d, owns (c : Thread nD τ) (st2_8 t) fullShare ((data2 V c).before 8 t d))
    ∗ (∃ d, owns (c : Thread nD τ) (st2_9 t) fullShare ((data2 V c).before 9 t d)))

/-- What it hands back. -/
def left2 (c : Dev nD) (t : Fin cfg2.N) : sProp (MM F) :=
  iprop((data2 V c).Φ t.succ ∗ (data2 V c).owesAt none t.succ
    ∗ owns (c : Thread nD τ) (st2_0 t) fullShare ((data2 V c).after 0 t)
    ∗ owns (c : Thread nD τ) (st2_1 t) fullShare ((data2 V c).after 1 t)
    ∗ owns (c : Thread nD τ) (st2_2 t) fullShare ((data2 V c).after 2 t)
    ∗ owns (c : Thread nD τ) (st2_3 t) fullShare ((data2 V c).after 3 t)
    ∗ owns (c : Thread nD τ) (st2_4 t) fullShare ((data2 V c).after 4 t)
    ∗ owns (c : Thread nD τ) (st2_5 t) fullShare ((data2 V c).after 5 t)
    ∗ owns (c : Thread nD τ) (st2_6 t) fullShare ((data2 V c).after 6 t)
    ∗ owns (c : Thread nD τ) (st2_7 t) fullShare ((data2 V c).after 7 t)
    ∗ owns (c : Thread nD τ) (st2_8 t) fullShare ((data2 V c).after 8 t)
    ∗ owns (c : Thread nD τ) (st2_9 t) fullShare ((data2 V c).after 9 t))

set_option maxHeartbeats 800000 in
theorem weights_step (c : Dev nD) (t : Fin cfg2.N) :
    given2 V c t ⊢ wp frame (wpE (defs₀ (F := F)) Variants.none c none) Set.univ (bodyAt2 t) (fun _ => left2 V c t) := by
  unfold given2 left2 bodyAt2
  rw [show (data2 V c).Φ t.succ = (data2 V c).Φ t.castSucc from rfl,
    show (data2 V c).owesAt none t.succ = (data2 V c).owesAt none t.castSucc from rfl]
  obtain ⟨b0, b1, b2, b3, b4, b5, b6, b7, b8⟩ := before2_in V c t
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (weights_body c Set.univ _ _ _ _ _ _ _ _ _ _ _ _ _ _ _ _ _ _ _ _ (part2 V c 0 t) (part2 V c 1 t) (part2 V c 2 t) (part2 V c 3 t)
    (part2 V c 4 t) (part2 V c 5 t) (part2 V c 6 t) (part2 V c 7 t) (part2 V c 8 t) _)
  isplitl [H0]; · rw [← b0 d0]; iexact H0
  isplitl [H1]; · rw [← b1 d1]; iexact H1
  isplitl [H2]; · rw [← b2 d2]; iexact H2
  isplitl [H3]; · rw [← b3 d3]; iexact H3
  isplitl [H4]; · rw [← b4 d4]; iexact H4
  isplitl [H5]; · rw [← b5 d5]; iexact H5
  isplitl [H6]; · rw [← b6 d6]; iexact H6
  isplitl [H7]; · rw [← b7 d7]; iexact H7
  isplitl [H8]; · rw [← b8 d8]; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [after2_out V c t]; iexact H9

theorem row2 (t : Fin cfg2.N) : defs₀ (F := F) .tc cfg2.body (cfg2.bodyArgs t (cfg2.slots t)) = bodyAt2 t := by
  rfl

theorem obligation2 (c : Dev nD) : BodyObligation (data2 (F := F) V c) (defs₀ (F := F)) Variants.none none Set.univ := fun t => by
  rw [bigSep_W2, bigSep_W2, row2]
  exact triple_restated (weights_step V c t) rfl .rfl fun _ => .rfl

end Weights

end Cert.KernelIdeal.Dense

end
-- ==== Proof.Call.lean ====
/-
  What the SparseCore call of @main is started with and what it gives back, as parts of the unscoped
  buffers: the memory and the key in shares, one per tile, and the two results cut into the tiles'
  entries.
-/
module

public import proofs.«01_k».proof.Proof.Task
public import proofs.«01_k».proof.Proof.Dense

@[expose] public section

noncomputable section

namespace Cert.KernelIdeal.Call

open Cert.KernelIdeal Cert.KernelIdeal.Gen Cert.KernelIdeal.Tile Cert.KernelIdeal.Dense
open Idealize.ShloMosaic Idealize.ShloMosaic.TcCoe Idealize.ShloMosaic.StableHlo
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The tile of core `c` and subcore `s` has number `2 s + c`. -/
def tileNumber : Fin (grid0.bound 0) × Fin (grid0.bound 1) ≃ Fin 32 where
  toFun p := ⟨2 * p.2.val + p.1.val, by
    have h1 : p.1.val < 2 := p.1.isLt
    have h2 : p.2.val < 16 := p.2.isLt
    omega⟩
  invFun w := (⟨w.val % 2, by show _ < 2; omega⟩, ⟨w.val / 2, by show _ < 16; omega⟩)
  left_inv p := by
    have h1 : p.1.val < 2 := p.1.isLt
    refine Prod.ext (Fin.ext ?_) (Fin.ext ?_)
    · show (2 * p.2.val + p.1.val) % 2 = _; omega
    · show (2 * p.2.val + p.1.val) / 2 = _; omega
  right_inv w := Fin.ext (by show 2 * (w.val / 2) + w.val % 2 = _; omega)

theorem wid_coordsOf (c : Fin (grid0.bound 0)) (s : Fin (grid0.bound 1)) : wid (coordsOf c s) = tileNumber (c, s) := rfl

/-- A resource per tile is a resource per core and subcore. -/
theorem by_tile (Φ : Fin 32 → sProp (MM F)) :
    bigSep Finset.univ Φ = bigSep Finset.univ fun c : Fin (grid0.bound 0) => bigSep Finset.univ fun s : Fin (grid0.bound 1) => Φ (wid (coordsOf c s)) := by
  rw [bigSep_univ_equiv tileNumber Φ, bigSep_univ_prod]; rfl

/-- The tiles' entries of a result are all of it. -/
theorem entries (ℓ : Loc nD τ sig) (S : Fin 32 → Finset (Idx ℓ)) (f : Buf (Elt F) ℓ)
    (hdisj : ∀ w w', w ≠ w' → Disjoint (S w) (S w')) (hall : ∀ x, ∃ w, x ∈ S w) :
    (ℓ ↦{fullShare} f : sProp (MM F)) = bigSep Finset.univ fun w => ℓ ↦[S w]{fullShare} f := by
  rw [← pointsTo_biUnion Finset.univ S fun w _ w' _ h => hdisj w w' h]
  congr 1
  refine (Finset.eq_univ_of_forall fun x => ?_).symm
  obtain ⟨w, hw⟩ := hall x
  exact Finset.mem_biUnion.mpr ⟨w, Finset.mem_univ w, hw⟩

theorem outSet_disjoint (w w' : Fin 32) (h : w ≠ w') : Disjoint (outSet w) (outSet w') :=
  Finset.disjoint_left.mpr fun x hx hx' => h ((Finset.mem_filter.mp hx).2.symm.trans (Finset.mem_filter.mp hx').2)
theorem outSet_all (x : S1024.Idx) : ∃ w, x ∈ outSet w := ⟨blockOf x, Finset.mem_filter.mpr ⟨Finset.mem_univ x, rfl⟩⟩

/-- What remains of the memory and of the key when every tile has its share. -/
def kept (d : Dev nD) (fM : Vec F S16384x256 .f32) (fK : Vec F S256 .f32) : sProp (MM F) :=
  iprop((memLoc d ↦{Transfers.shareDrop fullShare 32} fM) ∗ (keyLoc d ↦{Transfers.shareDrop fullShare 32} fK))

/-- The four buffers of the call. -/
def four (d : Dev nD) (fM : Vec F S16384x256 .f32) (fK : Vec F S256 .f32) (fd fs : Vec F S1024 .f32) : sProp (MM F) :=
  iprop((memLoc d ↦{fullShare} fM) ∗ (keyLoc d ↦{fullShare} fK) ∗ (dotsLoc d ↦{fullShare} fd) ∗ (squaresLoc d ↦{fullShare} fs))

theorem four_eq (d : Dev nD) (fM : Vec F S16384x256 .f32) (fK : Vec F S256 .f32) (fd fs : Vec F S1024 .f32) :
    four d fM fK fd fs ⊣⊢ iprop(kept d fM fK ∗ bigSep Finset.univ (share d fM fK fd fs)) := by
  unfold four kept
  rw [show share d fM fK fd fs = fun w => iprop((memLoc d ↦{Transfers.shareTok fullShare 32 w} fM) ∗ (keyLoc d ↦{Transfers.shareTok fullShare 32 w} fK)
      ∗ (dotsLoc d ↦[outSet w]{fullShare} fd) ∗ (squaresLoc d ↦[outSet w]{fullShare} fs)) from rfl,
    bigSep_sep', bigSep_sep', bigSep_sep', ← entries (dotsLoc d) outSet fd outSet_disjoint outSet_all,
    ← entries (squaresLoc d) outSet fs outSet_disjoint outSet_all]
  constructor
  · iintro ⟨HM, HK, Hd, Hs⟩
    ihave HM := (Transfers.pointsTo_toks_split fullShare 32) $$ HM
    ihave HK := (Transfers.pointsTo_toks_split fullShare 32) $$ HK
    icases HM with ⟨HM, HMs⟩
    icases HK with ⟨HK, HKs⟩
    isplitl [HM HK]
    · isplitl [HM]; · iexact HM
      iexact HK
    isplitl [HMs]; · iexact HMs
    isplitl [HKs]; · iexact HKs
    isplitl [Hd]; · iexact Hd
    iexact Hs
  · iintro ⟨⟨HM, HK⟩, HMs, HKs, Hd, Hs⟩
    isplitl [HM HMs]
    · iapply (Transfers.pointsTo_toks_join fullShare 32)
      isplitl [HM]; · iexact HM
      iexact HMs
    isplitl [HK HKs]
    · iapply (Transfers.pointsTo_toks_join fullShare 32)
      isplitl [HK]; · iexact HK
      iexact HKs
    isplitl [Hd]; · iexact Hd
    iexact Hs

variable (m : (ℓ : Loc nD τ sig) → Buf (Elt F) ℓ)

/-- The contents of every buffer at the launch, and when the SparseCore call is over. -/
abbrev before (d : Dev nD) : Valuation τ sig (Elt F) := fun b => m (d, b)
abbrev dotsRef : DevRef τ sig := Proc.devRef (.tc : Proc τ) main_v0_0
abbrev squaresRef : DevRef τ sig := Proc.devRef (.tc : Proc τ) main_v0_1
abbrev memRef : DevRef τ sig := Proc.devRef (.tc : Proc τ) main_arg0
abbrev keyRef : DevRef τ sig := Proc.devRef (.tc : Proc τ) main_arg1
def called (d : Dev nD) : Valuation τ sig (Elt F) :=
  Function.update (Function.update (before m d) dotsRef (scDots (m (memLoc d)) (m (keyLoc d)) : Vec F S1024 .f32)) squaresRef (scSquares (m (memLoc d)) : Vec F S1024 .f32)

theorem called_dots (d : Dev nD) : called m d dotsRef = scDots (m (memLoc d)) (m (keyLoc d)) := by
  unfold called
  rw [Function.update_of_ne (show dotsRef ≠ squaresRef by decide), Function.update_self]
theorem called_squares (d : Dev nD) : called m d squaresRef = scSquares (m (memLoc d)) := by
  unfold called
  rw [Function.update_self]
theorem called_of (d : Dev nD) (b : DevRef τ sig) (h1 : b ≠ dotsRef) (h2 : b ≠ squaresRef) : called m d b = m (d, b) := by
  unfold called
  rw [Function.update_of_ne h2, Function.update_of_ne h1]

/-- The call's four buffers among the unscoped ones. -/
def fourRefs : Finset (DevRef τ sig) := {memRef, keyRef, dotsRef, squaresRef}

theorem fourRefs_sub : fourRefs ⊆ Pipeline.ucRefs τ sig := by decide

theorem held_four (d : Dev nD) (W : Valuation τ sig (Elt F)) :
    (held (T d : Thread nD τ) fourRefs W : sProp (MM F)) = four d (W memRef) (W keyRef) (W dotsRef) (W squaresRef) := by
  unfold held fourRefs four
  rw [SparseCore.bigSep_insert' (by decide), SparseCore.bigSep_insert' (by decide), SparseCore.bigSep_insert' (by decide), bigSep_singleton]

/-- The unscoped buffers but the call's. -/
def aside (d : Dev nD) : sProp (MM F) :=
  iprop(kept d (m (memLoc d)) (m (keyLoc d)) ∗ held (T d : Thread nD τ) (Pipeline.ucRefs τ sig \ fourRefs) (before m d))

theorem call_split (d : Dev nD) :
    (held (T d : Thread nD τ) (Pipeline.ucRefs τ sig) (before m d) : sProp (MM F))
      ⊢ iprop((bigSep Finset.univ fun c : Fin ((K (F := F)).nCore 0) => (P m).st 0 d c) ∗ aside m d) := by
  rw [held_sub_split (T d : Thread nD τ) fourRefs_sub (before m d), held_four]
  iintro ⟨H4, Hr⟩
  ihave H := (four_eq d _ _ _ _).1 $$ H4
  icases H with ⟨Hk, Hs⟩
  isplitl [Hs]
  · ihave Hs := (Entails.of_eq (by_tile (share d (before m d memRef) (before m d keyRef) (before m d dotsRef) (before m d squaresRef)))) $$ Hs
    iexact Hs
  unfold aside
  isplitl [Hk]; · iexact Hk
  iexact Hr

theorem call_join (d : Dev nD) :
    iprop((bigSep Finset.univ fun c : Fin ((K (F := F)).nCore 0) => (P m).dn 0 d c) ∗ aside m d)
      ⊢ (held (T d : Thread nD τ) (Pipeline.ucRefs τ sig) (called m d) : sProp (MM F)) := by
  rw [held_sub_split (T d : Thread nD τ) fourRefs_sub (called m d), held_four, called_dots, called_squares,
    called_of m d memRef (by decide) (by decide), called_of m d keyRef (by decide) (by decide),
    held_congr (T d : Thread nD τ) (V := called m d) (V' := before m d) fun b hb => called_of m d b
      (fun e => (Finset.mem_sdiff.mp hb).2 (by rw [e]; decide)) (fun e => (Finset.mem_sdiff.mp hb).2 (by rw [e]; decide))]
  unfold aside
  iintro ⟨Hs, Hk, Hr⟩
  isplitr [Hr]
  · iapply (four_eq d _ _ _ _).2
    isplitl [Hk]; · iexact Hk
    iapply (Entails.of_eq (by_tile (share d (m (memLoc d)) (m (keyLoc d)) (scDots (m (memLoc d)) (m (keyLoc d))) (scSquares (m (memLoc d))))).symm)
    iexact Hs
  iexact Hr

end Cert.KernelIdeal.Call
-- ==== Proof.Main.lean ====
/-
  @main of the kernel: the SparseCore call, then three stretches of host operations with the two
  TensorCore calls between them, the contents of every buffer at each boundary.
-/
module

public import proofs.«01_k».proof.Proof.Call

@[expose] public section

set_option maxRecDepth 16384

noncomputable section

namespace Cert.KernelIdeal.Main

open Cert.KernelIdeal Cert.KernelIdeal.Gen Cert.KernelIdeal.Tile Cert.KernelIdeal.Dense Cert.KernelIdeal.Call
open Idealize.ShloMosaic Idealize.ShloMosaic.TcCoe Idealize.ShloMosaic.StableHlo
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

/-! ## The host operations -/

/-- The key repeated in eight columns. -/
abbrev keyOps : List (HloOp τ sig (Elt F)) :=
  [ StableHlo.unary main_arg1 main_v1 (broadcastInDim S256x1 ![0] bcast_S256_S256x1_0 : (⟨S256, .f32⟩ : BufTy).Contents (Elt F) → (⟨S256x1, .f32⟩ : BufTy).Contents (Elt F)),
    StableHlo.unary main_v1 main_v2 (broadcastInDim S256x8 ![0, 1] bcast_S256x1_S256x8_0_1 : (⟨S256x1, .f32⟩ : BufTy).Contents (Elt F) → (⟨S256x8, .f32⟩ : BufTy).Contents (Elt F)) ]
/-- The operands of the second TensorCore call. -/
abbrev viewOps : List (HloOp τ sig (Elt F)) :=
  [ StableHlo.reshape main_v0_0 main_v4 (rfl : (.f32 : EltTy) = .f32) shapeCasts_S1024_S8x128,
    StableHlo.reshape main_v0_1 main_v5 (rfl : (.f32 : EltTy) = .f32) shapeCasts_S1024_S8x128,
    StableHlo.reshape main_v3_0 main_v6 (rfl : (.f32 : EltTy) = .f32) shapeCasts_S15x1x1024_S120x128,
    StableHlo.reshape main_v3_1 main_v7 (rfl : (.f32 : EltTy) = .f32) shapeCasts_S15x1x1024_S120x128,
    StableHlo.reshape main_arg1 main_v8 (rfl : (.f32 : EltTy) = .f32) shapeCasts_S256_S2x128,
    StableHlo.reshape main_arg2 main_v9 (rfl : (.f32 : EltTy) = .f32) shapeCasts_S1_S1x1,
    StableHlo.reshape main_arg3 main_v10 (rfl : (.f32 : EltTy) = .f32) shapeCasts_S1_S1x1,
    StableHlo.reshape main_arg4 main_v11 (rfl : (.f32 : EltTy) = .f32) shapeCasts_S1_S1x1,
    StableHlo.reshape main_arg5 main_v12 (rfl : (.f32 : EltTy) = .f32) shapeCasts_S16384_S128x128 ]
/-- The result in its final shape. -/
abbrev lastOps : List (HloOp τ sig (Elt F)) :=
  [ StableHlo.reshape main_v13 main_v14 (rfl : (.f32 : EltTy) = .f32) shapeCasts_S128x128_S16384 ]

theorem keyOps_sub : (keyOps : List (HloOp τ sig (Elt F))).Forall fun op => op.bufs ⊆ StableHlo.tcRefs τ sig :=
  ⟨StableHlo.unary_bufs_sub .., StableHlo.unary_bufs_sub ..⟩
theorem viewOps_sub : (viewOps : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub ..,
    StableHlo.reshape_bufs_sub .., StableHlo.reshape_bufs_sub .., StableHlo.reshape_bufs_sub .., StableHlo.reshape_bufs_sub ..⟩
theorem lastOps_sub : (lastOps : List (HloOp τ sig (Elt F))).Forall fun op => op.bufs ⊆ StableHlo.tcRefs τ sig := StableHlo.reshape_bufs_sub ..
theorem keyOps_fresh : (keyOps : List (HloOp τ sig (Elt F))).Forall fun op => op.fresh = ∅ := by simp only [List.Forall]; repeat' constructor
theorem viewOps_fresh : (viewOps : List (HloOp τ sig (Elt F))).Forall fun op => op.fresh = ∅ := by simp only [List.Forall]; repeat' constructor
theorem lastOps_fresh : (lastOps : List (HloOp τ sig (Elt F))).Forall fun op => op.fresh = ∅ := by simp only [List.Forall]; repeat' constructor

/-- The buffers each stretch writes. -/
abbrev keyOps_W : List (Ref sig .tc) := [main_v1, main_v2]
abbrev viewOps_W : List (Ref sig .tc) := [main_v4, main_v5, main_v6, main_v7, main_v8, main_v9, main_v10, main_v11, main_v12]
abbrev lastOps_W : List (Ref sig .tc) := [main_v14]
theorem keyOps_writes : (keyOps : List (HloOp τ sig (Elt F))).Forall fun op => op.writes ⊆ (keyOps_W.map (Proc.devRef (τ := τ) .tc)).toFinset :=
  StableHlo.forall_writes_sub_of_map rfl
theorem viewOps_writes : (viewOps : List (HloOp τ sig (Elt F))).Forall fun op => op.writes ⊆ (viewOps_W.map (Proc.devRef (τ := τ) .tc)).toFinset :=
  StableHlo.forall_writes_sub_of_map rfl
theorem lastOps_writes : (lastOps : List (HloOp τ sig (Elt F))).Forall fun op => op.writes ⊆ (lastOps_W.map (Proc.devRef (τ := τ) .tc)).toFinset :=
  StableHlo.forall_writes_sub_of_map rfl

/-! ## The contents at each boundary -/

variable (m : (ℓ : Loc nD τ sig) → Buf (Elt F) ℓ)

abbrev E1 : Dev nD → Valuation τ sig (Elt F) := fun c => StableHlo.after keyOps (called m c)
abbrev V1 : Contents F := fun c b => E1 m c b
def E2 (c : Dev nD) : Valuation τ sig (Elt F) := Pipeline.withArrays spec1 c (E1 m c) fun w => (data1 (V1 m) c).arrAt w cfg1.N
abbrev V2 : Contents F := fun c b => E2 m c b
abbrev E3 : Dev nD → Valuation τ sig (Elt F) := fun c => StableHlo.after viewOps (E2 m c)
abbrev V3 : Contents F := fun c b => E3 m c b
def E4 (c : Dev nD) : Valuation τ sig (Elt F) := Pipeline.withArrays spec2 c (E3 m c) fun w => (data2 (V3 m) c).arrAt w cfg2.N
abbrev V4 : Contents F := fun c b => E4 m c b
abbrev E5 : Dev nD → Valuation τ sig (Elt F) := fun c => StableHlo.after lastOps (E4 m c)

theorem E2_arr (c : Dev nD) (w : Fin cfg1.W) : E2 m c (Proc.devRef .tc (Pipeline.arrRef spec1 w)) = (data1 (V1 m) c).arrAt w cfg1.N := by
  unfold E2; exact Pipeline.withArrays_arr spec1 launch1.win.arr_inj c _ _ w
theorem E2_of_ne (c : Dev nD) (b : Ref sig .tc) (hb : ∀ w, Pipeline.arrRef spec1 w ≠ b) : E2 m c (Proc.devRef .tc b) = E1 m c (Proc.devRef .tc b) := by
  unfold E2; exact Pipeline.withArrays_of_ne spec1 c _ _ b hb
theorem E4_arr (c : Dev nD) (w : Fin cfg2.W) : E4 m c (Proc.devRef .tc (Pipeline.arrRef spec2 w)) = (data2 (V3 m) c).arrAt w cfg2.N := by
  unfold E4; exact Pipeline.withArrays_arr spec2 launch2.win.arr_inj c _ _ w
theorem E4_of_ne (c : Dev nD) (b : Ref sig .tc) (hb : ∀ w, Pipeline.arrRef spec2 w ≠ b) : E4 m c (Proc.devRef .tc b) = E3 m c (Proc.devRef .tc b) := by
  unfold E4; exact Pipeline.withArrays_of_ne spec2 c _ _ b hb

theorem E1_of (c : Dev nD) (r : Ref sig .tc) (h : r ∉ keyOps_W) : E1 m c (Proc.devRef .tc r) = called m c (Proc.devRef .tc r) :=
  StableHlo.after_of_writes_sub keyOps _ keyOps_writes h
theorem E2_of (c : Dev nD) (r : Ref sig .tc) (h : ∀ w : Fin cfg1.W, Pipeline.arrRef spec1 w = r → (cfg1.win w).isOut = false) :
    E2 m c (Proc.devRef .tc r) = E1 m c (Proc.devRef .tc r) := by
  by_cases hw : ∃ w : Fin cfg1.W, Pipeline.arrRef spec1 w = r
  · obtain ⟨w, rfl⟩ := hw
    exact (E2_arr m c w).trans (((data1 (V1 m) c).arrAt_in w (h w rfl) _).trans (data1_A (V1 m) c w))
  · exact E2_of_ne m c r fun w e => hw ⟨w, e⟩
theorem E3_of (c : Dev nD) (r : Ref sig .tc) (h : r ∉ viewOps_W) : E3 m c (Proc.devRef .tc r) = E2 m c (Proc.devRef .tc r) :=
  StableHlo.after_of_writes_sub viewOps _ viewOps_writes h
theorem E4_of (c : Dev nD) (r : Ref sig .tc) (h : ∀ w : Fin cfg2.W, Pipeline.arrRef spec2 w = r → (cfg2.win w).isOut = false) :
    E4 m c (Proc.devRef .tc r) = E3 m c (Proc.devRef .tc r) := by
  by_cases hw : ∃ w : Fin cfg2.W, Pipeline.arrRef spec2 w = r
  · obtain ⟨w, rfl⟩ := hw
    exact (E4_arr m c w).trans (((data2 (V3 m) c).arrAt_in w (h w rfl) _).trans (data2_A (V3 m) c w))
  · exact E4_of_ne m c r fun w e => hw ⟨w, e⟩
theorem E5_of (c : Dev nD) (r : Ref sig .tc) (h : r ∉ lastOps_W) : E5 m c (Proc.devRef .tc r) = E4 m c (Proc.devRef .tc r) :=
  StableHlo.after_of_writes_sub lastOps _ lastOps_writes h

/-- The arguments of @main. -/
abbrev arguments : List (Ref sig .tc) := [main_arg0, main_arg1, main_arg2, main_arg3, main_arg4, main_arg5]
theorem not_keyOps : ∀ a ∈ arguments, a ∉ keyOps_W := ListAll.forall_mem_of_all_decide (by decide +kernel)
theorem not_viewOps : ∀ a ∈ arguments, a ∉ viewOps_W := ListAll.forall_mem_of_all_decide (by decide +kernel)
theorem not_lastOps : ∀ a ∈ arguments, a ∉ lastOps_W := ListAll.forall_mem_of_all_decide (by decide +kernel)
theorem not_out1 : ∀ a ∈ arguments, ∀ w : Fin cfg1.W, Pipeline.arrRef spec1 w = a → (cfg1.win w).isOut = false :=
  ListAll.forall_mem_of_all_decide (by decide +kernel)
theorem not_out2 : ∀ a ∈ arguments, ∀ w : Fin cfg2.W, Pipeline.arrRef spec2 w = a → (cfg2.win w).isOut = false :=
  ListAll.forall_mem_of_all_decide (by decide +kernel)
theorem not_call : ∀ a ∈ arguments, (Proc.devRef .tc a : DevRef τ sig) ≠ dotsRef ∧ (Proc.devRef .tc a : DevRef τ sig) ≠ squaresRef :=
  ListAll.forall_mem_of_all_decide (by decide +kernel)

theorem called_arg (c : Dev nD) (a : Ref sig .tc) (ha : a ∈ arguments) : called m c (Proc.devRef .tc a) = m ((c : Thread nD τ).loc a) :=
  called_of m c _ (not_call a ha).1 (not_call a ha).2
theorem E1_arg (c : Dev nD) (a : Ref sig .tc) (ha : a ∈ arguments) : E1 m c (Proc.devRef .tc a) = m ((c : Thread nD τ).loc a) :=
  (E1_of m c a (not_keyOps a ha)).trans (called_arg m c a ha)
theorem E2_arg (c : Dev nD) (a : Ref sig .tc) (ha : a ∈ arguments) : E2 m c (Proc.devRef .tc a) = m ((c : Thread nD τ).loc a) :=
  (E2_of m c a (not_out1 a ha)).trans (E1_arg m c a ha)
/-- The arguments end as launched. -/
theorem E5_arg (c : Dev nD) (a : Ref sig .tc) (ha : a ∈ arguments) : E5 m c (Proc.devRef .tc a) = m ((c : Thread nD τ).loc a) :=
  (E5_of m c a (not_lastOps a ha)).trans ((E4_of m c a (not_out2 a ha)).trans ((E3_of m c a (not_viewOps a ha)).trans (E2_arg m c a ha)))

/-! ## The pipelines' proof data, and the segments -/

abbrev adm : (p : Fin 2) → (pcfgs (F := F) p).Adm := fun p => (cfgs p).toPCfg_adm
def pdats : (p : Fin 2) → (c : Dev nD) → Dat τ (Elt F) (HIx 1) ℕ UU ℕ (Pipeline.pin (pcfgs (F := F)) adm p) c
  | ⟨0, _⟩ => fun c => data1 (V1 m) c
  | ⟨1, _⟩ => fun c => data2 (V3 m) c

abbrev L : GSem nD τ sig → Finset (HIx 1) := (K (F := F)).L
abbrev lv : GSem nD τ sig → HIx 1 → ℕ := (K (F := F)).lev

/-- Nothing owed, whatever waits of the past recorded. -/
def settled (c : Dev nD) : sProp (MM F) := iprop(∃ W, ⌜∀ p ∈ W, p ∈ past (F := F) c⌝ ∗ owes (c : Thread nD τ) (0 : CellTallies nD τ sig (HIx 1)) W)
/-- What rides beside the buffers. -/
abbrev R (c : Dev nD) : sProp (MM F) := iprop((∃ r, prngReg c r) ∗ settled c)
/-- The state at a boundary. -/
abbrev at_ (E : Dev nD → Valuation τ sig (Elt F)) (c : Dev nD) : sProp (MM F) :=
  iprop(StableHlo.held (c : Thread nD τ) (Pipeline.ucRefs τ sig) (E c) ∗ R c)

theorem settled_within (c : Dev nD) (B : Set (SemLoc sig × HIx 1)) (h : past (F := F) c ⊆ B) :
    (settled (F := F) c) ⊢ Pipeline.owesWithin c (0 : CellTallies nD τ sig (HIx 1)) B := by
  unfold settled Pipeline.owesWithin
  iintro ⟨%W, %hW, HO⟩
  iexists W
  isplitr
  · ipureintro; exact fun p hp => h (hW p hp)
  iexact HO
theorem within_settled (c : Dev nD) (B : Set (SemLoc sig × HIx 1)) (h : B ⊆ past (F := F) c) :
    (Pipeline.owesWithin c (0 : CellTallies nD τ sig (HIx 1)) B : sProp (MM F)) ⊢ settled c := by
  unfold settled Pipeline.owesWithin
  iintro ⟨%W, %hW, HO⟩
  iexists W
  isplitr
  · ipureintro; exact fun p hp => h (hW hp)
  iexact HO

/-- The waits of a pipeline of its own are of the lowest level. -/
theorem waits_past (c : Dev nD) (cfg : Pipeline.Cfg sig Λ₀) : past (F := F) c ∪ cfg.waitPairs (none : HIx 1) ⊆ past (F := F) c := by
  rintro p (h | h)
  · exact h
  · obtain ⟨s, q, rfl⟩ := h
    exact Nat.zero_le _

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (L (F := F)) (lv (F := F)) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- The first TensorCore call over the unscoped buffers. -/
def reg1 : Pipeline.RegionSeg (pcfgs (F := F)) adm (pdats m) (none : HIx 1) defs₀ 𝒱₀ (L (F := F)) (lv (F := F)) 0 where
  win := launch1.win.to₀
  block_pos := launch1.block_pos
  stage_whole := launch1.stage_whole
  K := PEmpty
  osem k := k.elim
  ho := Pipeline.OwnSemFacts.none _
  hbody c := (obligation1 (V1 m) c).loose
  hwaits := Pipeline.hwaits_of_owed_zero _ _ _ _ _ _ 0 fun _ _ => rfl
  pre := at_ (E1 m)
  post := at_ (E2 m)
  X c := iprop(∃ r, prngReg c r)
  Y c := iprop(∃ r, prngReg c r)
  Z c := Pipeline.unscopedRest (Ix := HIx 1) (Name := ℕ) (U := UU) (Lvl := ℕ) spec1 c (V1 m c)
  hentry c := by
    rw [Pipeline.ownSems0_none]
    have hsplit := Pipeline.arrays_of_unscopedBufs (p := 0) (pcfgs (F := F)) adm (pdats m) launch1.win launch1.arr_whole c
      ((pdats m 0 c).share_full fun _ => rfl) (V1 m c) (data1_A (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (settled_within c _ Set.subset_union_left); iexact HO
    isplitl [Hp]; · iexact Hp
    iexact Hrest
  hin c := by
    rw [show (pdats m 0 c).Φ 0 = iprop(Pipeline.scopedRest spec1 c ∗ ∃ r, prngReg c r) from rfl]
    iintro ⟨Hp, -, Hr⟩
    isplitl [Hr]; · iexact Hr
    iexact Hp
  hout c := by
    rw [Pipeline.ownSems0_none, show (pdats m 0 c).Φ (Fin.last _) = iprop(Pipeline.scopedRest spec1 c ∗ ∃ r, prngReg c r) from rfl]
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch1.win launch1.arr_whole c (pdats m) ((pdats m 0 c).share_full fun _ => rfl)
      (V1 m c) (V2 m c) ((pdats m 0 c).arrAt · cfg1.N) (fun w => (E2_arr m c w).symm)
      (fun b hb => E2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (within_settled c _ (waits_past c _)); iexact HO

set_option backward.isDefEq.respectTransparency.types false in
/-- The second one. -/
def reg2 : Pipeline.RegionSeg (pcfgs (F := F)) adm (pdats m) (none : HIx 1) defs₀ 𝒱₀ (L (F := F)) (lv (F := F)) 1 where
  win := launch2.win.to₀
  block_pos := launch2.block_pos
  stage_whole := launch2.stage_whole
  K := PEmpty
  osem k := k.elim
  ho := Pipeline.OwnSemFacts.none _
  hbody c := (obligation2 (V3 m) c).loose
  hwaits := Pipeline.hwaits_of_owed_zero _ _ _ _ _ _ 1 fun _ _ => rfl
  pre := at_ (E3 m)
  post := at_ (E4 m)
  X c := iprop(∃ r, prngReg c r)
  Y c := iprop(∃ r, prngReg c r)
  Z c := Pipeline.unscopedRest (Ix := HIx 1) (Name := ℕ) (U := UU) (Lvl := ℕ) spec2 c (V3 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V3 m c) (data2_A (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (settled_within c _ Set.subset_union_left); iexact HO
    isplitl [Hp]; · iexact Hp
    iexact Hrest
  hin c := by
    rw [show (pdats m 1 c).Φ 0 = iprop(Pipeline.scopedRest spec2 c ∗ ∃ r, prngReg c r) from rfl]
    iintro ⟨Hp, -, Hr⟩
    isplitl [Hr]; · iexact Hr
    iexact Hp
  hout c := by
    rw [Pipeline.ownSems0_none, show (pdats m 1 c).Φ (Fin.last _) = iprop(Pipeline.scopedRest spec2 c ∗ ∃ r, prngReg c r) from rfl]
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V3 m c) (V4 m c) ((pdats m 1 c).arrAt · cfg2.N) (fun w => (E4_arr m c w).symm)
      (fun b hb => E4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (within_settled c _ (waits_past c _)); iexact HO

abbrev segs : List (Pipeline.Seg (pcfgs (F := F)) adm (pdats m) (none : HIx 1) defs₀ 𝒱₀ (L (F := F)) (lv (F := F))) :=
  [ .host (hseg keyOps keyOps_sub keyOps_fresh (called m)),
    .region (reg1 m),
    .host (hseg viewOps viewOps_sub viewOps_fresh (E2 m)),
    .region (reg2 m),
    .host (hseg lastOps lastOps_sub lastOps_fresh (E4 m)) ]

/-- @main is the SparseCore call and then the segments. -/
theorem main_eq (d : Dev nD) : main (F := F) d = ((K (F := F)).run d 0 >>= fun _ => SparseCore.liftProg (Pipeline.Seg.run (segs m))) := by
  chain_rfl

end Cert.KernelIdeal.Main
-- ==== Proof.Launch.lean ====
/-
  The launch of the kernel: the ghost state of its handshakes and of its pipelines, @main on the
  TensorCore, and what every run of the program ends in.
-/
module

public import proofs.«01_k».proof.Proof.Main

@[expose] public section

noncomputable section

namespace Cert.KernelIdeal.Main

open Cert.KernelIdeal Cert.KernelIdeal.Gen Cert.KernelIdeal.Tile Cert.KernelIdeal.Dense Cert.KernelIdeal.Call
open Idealize.ShloMosaic Idealize.ShloMosaic.TcCoe Idealize.ShloMosaic.StableHlo
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

/-! ## The ghost state -/

/-- The pipelines' rounds. -/
abbrev EP : Emb UP (MM F) := (Emb.inl : Emb UP (UP × Counters)).trans embR

/-- The pipelines' part of the launch element. -/
abbrev pipes₀ : UP := initOf (Pipeline.cells (nD := nD) (τ := τ) cfgs cellOf_inj) (Pipeline.launchToks (nD := nD) (τ := τ) cfgs cellOf_inj)
def u₀ : UU := (initOf (K (F := F)).hsCells (K (F := F)).hsToks, (pipes₀, 1))

theorem pipes_ghost : (BI.own (EP (F := F) pipes₀) : sProp (MM F))
    ⊢ iprop(|==> bigSep Finset.univ fun c : Dev nD => Pipeline.ghostOn (pcfgs (F := F)) adm EP Finset.univ c) := by
  iintro H
  imod (Pipeline.fund_ghost (Pipeline.pin (pcfgs (F := F)) adm) (EP (F := F)) cellOf_inj) $$ H with ⟨Hc, Ht⟩
  imodintro
  iapply (Entails.of_eq ((bigSep_sep' Finset.univ _ _).symm.trans (bigSep_congr fun c _ => (bigSep_sep' Finset.univ _ _).symm)))
  isplitl [Hc]; · iexact Hc
  iexact Ht

theorem nothing_dealt : (BI.emp : sProp (MM F)) ⊢ bigSep Finset.univ fun thr : Thread nD τ => bigSep Finset.univ fun q : Fin 1 => (P m).x q thr := by
  rw [show (fun thr : Thread nD τ => bigSep Finset.univ fun q : Fin 1 => (P m).x q thr) = fun _ => (BI.emp : sProp (MM F)) from
    funext fun thr => (show (bigSep Finset.univ fun q : Fin 1 => (P m).x q thr) = bigSep Finset.univ fun _ : Fin 1 => (BI.emp : sProp (MM F)) from rfl).trans
      (bigSep_emp_const _), bigSep_emp_const]

theorem hu₀ : (ownU (u₀ (F := F)) : sProp (MM F))
    ⊢ |={Set.univ}=> iprop(BI.own (EH (initOf (K (F := F)).hsCells (K (F := F)).hsToks))
        ∗ (bigSep Finset.univ fun c : Dev nD => Pipeline.ghostOn (pcfgs (F := F)) adm EP Finset.univ c)
        ∗ bigSep Finset.univ fun thr : Thread nD τ => bigSep Finset.univ fun q : Fin 1 => (P m).x q thr) := by
  unfold u₀
  iintro Hu
  ihave H := (ownU_pair _ _) $$ Hu
  icases H with ⟨HH, HP⟩
  ihave H := (own_pair_emb (embR : Emb (UP × Counters) (MM F)) pipes₀ 1) $$ HP
  icases H with ⟨HP, -⟩
  imod (pipes_ghost (F := F)) $$ HP with HG
  imodintro
  isplitl [HH]; · iexact HH
  isplitl [HG]; · iexact HG
  iapply (nothing_dealt m); iempintro

/-! ## @main on the TensorCore -/

/-- The contents of the unscoped buffers at the end. -/
abbrev FIN (c : Dev nD) : sProp (MM F) := StableHlo.held (c : Thread nD τ) (Pipeline.ucRefs τ sig) (E5 m c)

theorem tail_run [∀ e, Nonempty (Elt F e)] (d : Dev nD) (Q : PUnit → sProp (MM F)) :
    iprop((iprop(boundary (d.tc : Thread nD τ) ∗ at_ (E5 m) d) -∗ Q ⟨⟩)
        ∗ boundary (d.tc : Thread nD τ) ∗ at_ (called m) d ∗ levAts (L (F := F)) (lv (F := F)) ∗ Pipeline.ghostOn (pcfgs (F := F)) adm EP Finset.univ d)
      ⊢ wp frame (wpE ((K (F := F)).defs (D (F := F))) 𝒱 (d.tc : Thread nD τ) none) Set.univ (SparseCore.liftProg (Pipeline.Seg.run (segs m))) Q :=
  (Pipeline.wp_segs (pcfgs (F := F)) adm (pdats m) (none : HIx 1) cellOf_inj EP defs₀ 𝒱₀ (L (F := F)) (lv (F := F)) d (segs m) Finset.univ
    (at_ (called m)) (at_ (E5 m))
    (by simp only [segs, Pipeline.Seg.pipes_host, Pipeline.Seg.pipes_region, Pipeline.Seg.pipes_nil]; decide)
    (fun _ _ => Finset.mem_univ _) ⟨fun _ => .rfl, fun _ => .rfl, fun _ => .rfl, fun _ => .rfl, fun _ => .rfl, fun _ => .rfl⟩).trans
    ((K (F := F)).wp_liftProg (D (F := F)) 𝒱 (d.tc : Thread nD τ) Set.univ none _ Q)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Pipeline.ghostOn (pcfgs (F := F)) adm EP Finset.univ d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq m d, wp_bind, show (unscopedBufs d fun b => m ((T d : Thread nD τ).loc b)) = StableHlo.held (d : Thread nD τ) (Pipeline.ucRefs τ sig) (before m d)
    from Pipeline.unscopedBufs_held d (before m d)]
  iintro ⟨#Hctx, Hst, ⟨Hb, Hub, Hts, Hp⟩, HG⟩
  ihave H := (call_split m d) $$ Hub
  icases H with ⟨Hops, Hrest⟩
  ihave Hlev := (SparseCore.Cfg.ctx_levAts κ) $$ Hctx
  iapply ((K (F := F)).wp_run (D (F := F)) 𝒱 (EH := EH) (P := P m) κ d 0) $$ [Hst Hops Hrest Hb Hts Hp HG]
  isplitr; · iexact Hctx
  isplitl [Hst]; · iexact Hst
  isplitl [Hops]; · iexact Hops
  iintro ⟨Hst, Hdn⟩
  ihave Hub := (call_join m d) $$ [Hdn Hrest]
  · isplitl [Hdn]; · iexact Hdn
    iexact Hrest
  unfold SparseCore.Cfg.tcSt
  icases Hst with ⟨⟨%W, %hW, HO⟩, Hst⟩
  rw [(K (F := F)).Otc_end d (show 1 ≤ ((0 : Fin 1).val + 1) from le_rfl)]
  iapply (tail_run m d)
  isplitl [Hst Hts]
  · iintro ⟨Hb, Hh, -, HO⟩
    unfold settled
    icases HO with ⟨%W', %hW', HO⟩
    isplitl [HO Hst]
    · isplitl [HO]
      · iexists W'
        isplitr
        · ipureintro; exact fun p hp => hW' p hp
        rw [(K (F := F)).Otc_end d (show 1 ≤ 1 from le_rfl)]
        iexact HO
      iexact Hst
    isplitl [Hh]; · iexact Hh
    isplitl [Hb] <;> iassumption
  isplitl [Hb]; · iexact Hb
  isplitl [Hub Hp HO]
  · isplitl [Hub]; · iexact Hub
    isplitl [Hp]
    · iexists _; iexact Hp
    unfold settled
    iexists W
    isplitr
    · ipureintro; exact fun p hp => hW p hp
    iexact HO
  isplitr; · iexact Hlev
  iexact HG

def fq (d : Dev nD) (s' : Phys nD τ sig (Elt F)) : Prop := ∀ b ∈ Pipeline.ucRefs τ sig, s'.mem.mem ((d : Thread nD τ).1, b) = E5 m d b

theorem hfin (d : Dev nD) (s' : Phys nD τ sig (Elt F)) : iprop(FIN m d ∗ SI s') ⊢ (⌜fq m d s'⌝ : sProp (MM F)) := by
  unfold fq FIN StableHlo.held
  iintro ⟨Hh, HSI⟩
  ihave H := (pointsTo_read_all (Pipeline.ucRefs τ sig) (fun b => ((d : Thread nD τ).1, b)) (E5 m d) s') $$ [Hh HSI]
  · isplitl [Hh] <;> iassumption
  icases H with ⟨%h, -⟩
  ipureintro
  exact h

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every run ends with the result at its value, the arguments unchanged and every counter at zero. -/
theorem run_main [∀ e, Nonempty (Elt F e)] :
    θ_run (Cert.KernelIdeal.defs (F := F)) (Cert.KernelIdeal.threads (F := F)) ⟨m, fun _ => 0, ρ⟩ (fun r =>
      (∀ c : Dev nD, r.2.mem ((c.tc : Thread nD τ).loc main_v14) = E5 m c (Proc.devRef .tc main_v14)
        ∧ ∀ a ∈ arguments, r.2.mem ((c.tc : Thread nD τ).loc a) = m ((c.tc : Thread nD τ).loc a)) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun c => Pipeline.ghostOn (pcfgs (F := F)) adm EP Finset.univ c) (FIN m) (u₀ (F := F)) (sep_elim_left.trans (hu₀ m)) (hmain m ρ) (fq m) (hfin m) _
    (fun s' h hz => ⟨fun c => ⟨h c _ (mem_uc main_v14 (by decide)), fun a ha =>
      (h c _ (mem_uc a ((ListAll.forall_mem_of_all_decide (p := fun a => ¬ (Proc.devRef .tc a : DevRef τ sig).isScoped) (l := arguments) (by decide +kernel)) a ha))).trans (E5_arg m c a ha)⟩, hz⟩)

end Cert.KernelIdeal.Main
-- ==== Proof.Same.lean ====
/- The kernel and its idealization are one text: their body tables are equal at every reading of the floats. -/
module

public import proofs.«01_k».proof.Proof.Gen.Kernel
public import proofs.«01_k».proof.Proof.Gen.KernelIdeal

@[expose] public section

noncomputable section

namespace Cert.Same

open Idealize.ShloMosaic Idealize.SL.Sem

variable {F : FTy → Type} [FloatOps F]

set_option maxHeartbeats 4000000 in
/-- The bodies, processor by processor and label by label. -/
theorem bodies : Cert.Kernel.defs₀ (F := F) = Cert.KernelIdeal.defs₀ (F := F) := by
  funext p ℓ a
  match p, ℓ, a with
  | .scVector c s, ⟨0, _⟩, _ => rfl
  | .tc, ⟨1, _⟩, (t, s) => rfl
  | .tc, ⟨2, _⟩, (t, s) => rfl
  | .scVector c s, ⟨1, _⟩, _ => rfl
  | .scVector c s, ⟨2, _⟩, _ => rfl
  | .scScalar c, ℓ, _ => rfl
  | .tc, ⟨0, _⟩, _ => rfl

/-- With the calls about them. -/
theorem tables : Cert.Kernel.defs (F := F) = Cert.KernelIdeal.defs (F := F) :=
  congrArg (fun d => (Cert.KernelIdeal.sc (F := F)).defs (Pipeline.defs Cert.KernelIdeal.pcfgs d)) bodies

/-- The threads are the same text. -/
theorem programs : Cert.Kernel.threads (F := F) = Cert.KernelIdeal.threads (F := F) := rfl

/-- A run under equal tables, of equal threads, is the same run. -/
theorem run_of {nD : ℕ} {τ : Topo} {sig : RefSig} {Val : EltTy → Type} {Λ : Labels} {d d' : Defs nD τ sig Val Λ}
    {p p' : (c : Thread nD τ) → Prog (TpuEff nD τ sig Val Λ c.2) PUnit} {s : MemSt nD τ sig Val} {post : PUnit × MemSt nD τ sig Val → Prop}
    (hd : d = d') (hp : p = p') (h : θ_run d' p' s post) : θ_run d p s post := by
  subst hd hp
  exact h

set_option maxHeartbeats 4000000 in
/-- A run of the one is a run of the other. -/
theorem run {s : MemSt Cert.KernelIdeal.nD Cert.KernelIdeal.τ Cert.KernelIdeal.sig (Elt F)}
    {post : PUnit × MemSt Cert.KernelIdeal.nD Cert.KernelIdeal.τ Cert.KernelIdeal.sig (Elt F) → Prop}
    (h : θ_run (Cert.KernelIdeal.defs (F := F)) (Cert.KernelIdeal.threads (F := F)) s post) :
    θ_run (Cert.Kernel.defs (F := F)) (Cert.Kernel.threads (F := F)) s post :=
  run_of tables programs h

end Cert.Same

end
-- ==== Proof.Softmax.lean ====
/- The mathematics of the write weighting over the extended reals, with no program in it: the similarity of a row is
   finite whatever the row and the key hold, and the kernel's scaled softmax, summed in two parts, is the reference's. -/
module

public import Idealize.ShloMosaic.Lib.Pointwise
public import Idealize.ShloMosaic.PureOps.Ideal

@[expose] public section

noncomputable section

namespace Cert.Weights

open Idealize.ShloMosaic

/-! ## The two constants -/

/-- The floor of the denominator. -/
abbrev floor : EReal := Ideal.ofBits .f32 841731191#32

/-- The starting value of a maximum. -/
abbrev lowest : EReal := Ideal.ofBits .f32 4286578688#32

theorem lowest_eq : lowest = ⊥ := by simp [lowest, Ideal.ofBits, Ideal.ieee]

theorem floor_real : ∃ e : ℝ, 0 < e ∧ floor = (e : EReal) := by
  refine ⟨_, ?_, by
    show Ideal.ieee 8 23 (841731191#32) = _
    unfold Ideal.ieee
    simp only [show ((841731191#32 : BitVec 32).extractLsb' (8 + 23) 1 == 1#1) = false from by decide,
      show ((841731191#32 : BitVec 32).extractLsb' 23 8).toNat = 100 from by decide,
      show ((841731191#32 : BitVec 32).extractLsb' 0 23).toNat = 2870391 from by decide]
    norm_num
    rfl⟩
  positivity

/-! ## Finite values -/

/-- The value is a real number. -/
def Finite (x : EReal) : Prop := ∃ r : ℝ, x = (r : EReal)

theorem Finite.of_ne {x : EReal} (h : x ≠ ⊤) (h' : x ≠ ⊥) : Finite x := ⟨x.toReal, (EReal.coe_toReal h h').symm⟩

theorem Finite.mul {x y : EReal} : Finite x → Finite y → Finite (x * y) := by
  rintro ⟨a, rfl⟩ ⟨b, rfl⟩; exact ⟨a * b, (EReal.coe_mul a b).symm⟩

theorem Finite.sub {x y : EReal} : Finite x → Finite y → Finite (x - y) := by
  rintro ⟨a, rfl⟩ ⟨b, rfl⟩; exact ⟨a - b, (EReal.coe_sub a b).symm⟩

theorem coe_sum {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

theorem Finite.sum {ι : Type} (s : Finset ι) {f : ι → EReal} (h : ∀ i, Finite (f i)) : Finite (∑ i ∈ s, f i) := by
  choose g hg using h
  exact ⟨∑ i ∈ s, g i, by rw [show f = fun i => (g i : EReal) from funext hg]; exact coe_sum s g⟩

/-! ## The similarity of a row -/

/-- A square is nonnegative. -/
theorem sq_nonneg' (x : EReal) : 0 ≤ x * x := by
  rcases le_total 0 x with h | h
  · exact mul_nonneg h h
  · have : 0 ≤ (-x) * (-x) := mul_nonneg (EReal.neg_nonneg.mpr h) (EReal.neg_nonneg.mpr h)
    rwa [neg_mul_neg] at this

theorem sumsq_nonneg {n : ℕ} (x : Fin n → EReal) : 0 ≤ ∑ j, x j * x j := Finset.sum_nonneg fun j _ => sq_nonneg' (x j)

theorem sq_le_sumsq {n : ℕ} (x : Fin n → EReal) (j : Fin n) : x j * x j ≤ ∑ i, x i * x i :=
  Finset.single_le_sum (f := fun i => x i * x i) (fun i _ => sq_nonneg' (x i)) (Finset.mem_univ j)

/-- A sum of squares below infinity has finite terms only. -/
theorem finite_of_sumsq {n : ℕ} {x : Fin n → EReal} (h : ∑ i, x i * x i ≠ ⊤) (j : Fin n) : Finite (x j) := by
  have hj : x j * x j ≠ ⊤ := fun e => h (top_le_iff.mp (e ▸ sq_le_sumsq x j))
  refine .of_ne ?_ ?_ <;> intro e <;> rw [e] at hj <;> exact hj (by simp)

/-- A sum of squares that is zero has zero terms only. -/
theorem zero_of_sumsq {n : ℕ} {x : Fin n → EReal} (h : ∑ i, x i * x i = 0) (j : Fin n) : x j = 0 := by
  have hj : x j * x j = 0 := le_antisymm (h ▸ sq_le_sumsq x j) (sq_nonneg' _)
  simpa using hj

theorem sqrt_nonneg {q : EReal} (h : 0 ≤ q) : 0 ≤ Ideal.sqrt q := by
  induction q with
  | bot => simp at h
  | top => simp
  | coe r =>
    have hr : ¬ r < 0 := not_lt.mpr (by exact_mod_cast h)
    rw [Ideal.sqrt_coe, if_neg hr]; exact_mod_cast Real.sqrt_nonneg r

theorem sqrt_finite {q : EReal} (h : 0 ≤ q) (h' : q ≠ ⊤) : Finite (Ideal.sqrt q) := by
  induction q with
  | bot => simp at h
  | top => exact absurd rfl h'
  | coe r =>
    have hr : ¬ r < 0 := not_lt.mpr (by exact_mod_cast h)
    rw [Ideal.sqrt_coe, if_neg hr]; exact ⟨_, rfl⟩

theorem sqrt_eq_zero {q : EReal} (h : 0 ≤ q) (h' : Ideal.sqrt q = 0) : q = 0 := by
  induction q with
  | bot => simp at h
  | top => simp at h'
  | coe r =>
    have hr : 0 ≤ r := by exact_mod_cast h
    rw [Ideal.sqrt_coe, if_neg (not_lt.mpr hr)] at h'
    have : Real.sqrt r = 0 := by exact_mod_cast h'
    rw [(Real.sqrt_eq_zero hr).mp this]; rfl

/-- The scaled cosine of a row: the inner product over the product of the norms, floored, times the strength. -/
abbrev sim (d q κ st : EReal) : EReal := Ideal.div d (max (Ideal.sqrt q * κ) floor) * st

/-- The norm product of a row and the key. -/
theorem div_finite {n : ℕ} (x k : Fin n → EReal) :
    Finite (Ideal.div (∑ j, x j * k j) (max (Ideal.sqrt (∑ j, x j * x j) * Ideal.sqrt (∑ j, k j * k j)) floor)) := by
  obtain ⟨e, he, hfl⟩ := floor_real
  have hpos : (0 : EReal) < max (Ideal.sqrt (∑ j, x j * x j) * Ideal.sqrt (∑ j, k j * k j)) floor :=
    lt_of_lt_of_le (by rw [hfl]; exact_mod_cast he) (le_max_right _ _)
  -- a zero inner product gives zero
  have hzero : ∑ j, x j * k j = 0 →
      Finite (Ideal.div (∑ j, x j * k j) (max (Ideal.sqrt (∑ j, x j * x j) * Ideal.sqrt (∑ j, k j * k j)) floor)) := fun h => by
    rw [h, Ideal.div, if_neg hpos.ne', zero_mul]; exact ⟨0, rfl⟩
  -- an infinite norm product gives zero
  have htop : Ideal.sqrt (∑ j, x j * x j) * Ideal.sqrt (∑ j, k j * k j) = ⊤ →
      Finite (Ideal.div (∑ j, x j * k j) (max (Ideal.sqrt (∑ j, x j * x j) * Ideal.sqrt (∑ j, k j * k j)) floor)) := fun h => by
    rw [Ideal.div, if_neg hpos.ne', h, max_eq_left le_top, EReal.inv_top, mul_zero]; exact ⟨0, rfl⟩
  by_cases hx : ∑ j, x j * x j = ⊤
  · by_cases hk : Ideal.sqrt (∑ j, k j * k j) = 0
    · exact hzero (Finset.sum_eq_zero fun j _ => by rw [zero_of_sumsq (sqrt_eq_zero (sumsq_nonneg k) hk) j, mul_zero])
    · exact htop (by
        rw [hx, Ideal.sqrt_top]
        exact EReal.top_mul_of_pos (lt_of_le_of_ne (sqrt_nonneg (sumsq_nonneg k)) (Ne.symm hk)))
  by_cases hk : ∑ j, k j * k j = ⊤
  · by_cases hx' : Ideal.sqrt (∑ j, x j * x j) = 0
    · exact hzero (Finset.sum_eq_zero fun j _ => by rw [zero_of_sumsq (sqrt_eq_zero (sumsq_nonneg x) hx') j, zero_mul])
    · exact htop (by
        rw [hk, Ideal.sqrt_top]
        exact EReal.mul_top_of_pos (lt_of_le_of_ne (sqrt_nonneg (sumsq_nonneg x)) (Ne.symm hx')))
  -- every term is finite
  obtain ⟨d, hd⟩ := Finite.sum Finset.univ fun j => (finite_of_sumsq hx j).mul (finite_of_sumsq hk j)
  obtain ⟨n, hn⟩ := (sqrt_finite (sumsq_nonneg x) hx).mul (sqrt_finite (sumsq_nonneg k) hk)
  rw [Ideal.div, if_neg hpos.ne', hd, hn, hfl, show max (n : EReal) (e : EReal) = ((max n e : ℝ) : EReal) from
    (Monotone.map_max (fun _ _ h => EReal.coe_le_coe_iff.mpr h)).symm, ← EReal.coe_inv, ← EReal.coe_mul]
  exact ⟨_, rfl⟩

theorem sim_finite {n : ℕ} (x k : Fin n → EReal) {st : EReal} (h : Finite st) :
    Finite (sim (∑ j, x j * k j) (∑ j, x j * x j) (Ideal.sqrt (∑ j, k j * k j)) st) :=
  (div_finite x k).mul h

/-! ## Maxima and sums in two parts -/

theorem fold_eq_sup {ι : Type} (s : Finset ι) (f : ι → EReal) : s.fold max lowest f = s.sup f := by
  rw [lowest_eq]; rfl

/-- Position of lane `b` of row `a` among the first 1024 places. -/
abbrev lo (a : Fin 8) (b : Fin 128) : Fin 16384 := ⟨a.val * 128 + b.val, by omega⟩
/-- Position of lane `b` of row `a` among the places from 1024 on. -/
abbrev hi (a : Fin 120) (b : Fin 128) : Fin 16384 := ⟨(8 + a.val) * 128 + b.val, by omega⟩

/-- Every place is in exactly one of the two parts (only: in one). -/
theorem lo_or_hi (i : Fin 16384) : (∃ a b, i = lo a b) ∨ ∃ a b, i = hi a b := by
  by_cases h : i.val < 1024
  · exact .inl ⟨⟨i.val / 128, by omega⟩, ⟨i.val % 128, by omega⟩, Fin.ext (by show i.val = _ / 128 * 128 + _ % 128; omega)⟩
  · exact .inr ⟨⟨i.val / 128 - 8, by omega⟩, ⟨i.val % 128, by omega⟩,
      Fin.ext (by show i.val = (8 + (i.val / 128 - 8)) * 128 + i.val % 128; omega)⟩

/-- The maximum over a family is the maximum of those over two parts that make it up. -/
theorem sup_parts {ι κ P : Type} [Fintype ι] [Fintype κ] [Fintype P] (l : ι → P) (h : κ → P)
    (hP : ∀ i, (∃ a, i = l a) ∨ ∃ a, i = h a) (s : P → EReal) :
    max (Finset.univ.sup fun x => s (l x)) (Finset.univ.sup fun x => s (h x)) = Finset.univ.sup s := by
  refine le_antisymm (max_le (Finset.sup_le fun x _ => Finset.le_sup (f := s) (Finset.mem_univ _))
    (Finset.sup_le fun x _ => Finset.le_sup (f := s) (Finset.mem_univ _))) (Finset.sup_le fun i _ => ?_)
  rcases hP i with ⟨a, rfl⟩ | ⟨a, rfl⟩
  · exact le_max_of_le_left (Finset.le_sup (f := fun x => s (l x)) (Finset.mem_univ a))
  · exact le_max_of_le_right (Finset.le_sup (f := fun x => s (h x)) (Finset.mem_univ a))

theorem max_parts (s : Fin 16384 → EReal) :
    max ((Finset.univ : Finset (Fin 8 × Fin 128)).fold max lowest fun x => s (lo x.1 x.2))
        ((Finset.univ : Finset (Fin 120 × Fin 128)).fold max lowest fun x => s (hi x.1 x.2))
      = Finset.univ.fold max lowest s := by
  rw [fold_eq_sup, fold_eq_sup, fold_eq_sup]
  exact sup_parts (fun x : Fin 8 × Fin 128 => lo x.1 x.2) (fun x : Fin 120 × Fin 128 => hi x.1 x.2)
    (fun i => (lo_or_hi i).imp (fun ⟨a, b, h⟩ => ⟨(a, b), h⟩) fun ⟨a, b, h⟩ => ⟨(a, b), h⟩) s

theorem sum_parts (f : Fin 16384 → EReal) :
    (∑ a : Fin 8, ∑ b : Fin 128, f (lo a b)) + ∑ a : Fin 120, ∑ b : Fin 128, f (hi a b) = ∑ i, f i := by
  rw [Fin.sum_univ_tiles 128 128 rfl f, Fin.sum_univ_two_halves 8 120 rfl fun j : Fin 128 => ∑ t : Fin 128, f ⟨j * 128 + t, by omega⟩]

/-! ## The softmax -/

/-- The maximum of finitely many finite values is finite. -/
theorem max_finite {n : ℕ} [NeZero n] {s : Fin n → EReal} (h : ∀ i, Finite (s i)) : Finite (Finset.univ.fold max lowest s) := by
  rw [fold_eq_sup]
  obtain ⟨i, -, hi⟩ := Finset.exists_mem_eq_sup (Finset.univ : Finset (Fin n)) Finset.univ_nonempty s
  rw [hi]; exact h i

/-- The two ways of scaling: the gates folded into the two factors, or applied to the blended weighting. -/
theorem blend {ag wg : EReal} (hag : Finite ag) (hwg : Finite wg) (al : EReal) {e z : ℝ} (hz : z ≠ 0) :
    wg * ag * al + Ideal.div (wg * (1 - ag)) z * (e : EReal) = wg * (ag * al + (1 - ag) * Ideal.div (e : EReal) z) := by
  obtain ⟨a, rfl⟩ := hag
  obtain ⟨w, rfl⟩ := hwg
  have hz' : (z : EReal) ≠ 0 := by exact_mod_cast hz
  have h1 : (1 : EReal) - (a : EReal) = ((1 - a : ℝ) : EReal) := by rw [EReal.coe_sub]; rfl
  rw [Ideal.div, Ideal.div, if_neg hz', if_neg hz', h1, ← EReal.coe_inv]
  simp only [← EReal.coe_mul]
  rw [show w * (1 - a) * z⁻¹ * e = w * ((1 - a) * (e * z⁻¹)) by ring]
  generalize (1 - a) * (e * z⁻¹) = r
  induction al with
  | coe b => simp only [← EReal.coe_mul, ← EReal.coe_add]; congr 1; ring
  | bot =>
    rcases lt_trichotomy a 0 with ha | ha | ha <;> rcases lt_trichotomy w 0 with hw | hw | hw <;>
      first
        | (subst ha; simp)
        | (subst hw; simp)
        | (simp only [EReal.coe_mul, mul_assoc, EReal.coe_mul_bot_of_pos, EReal.coe_mul_bot_of_neg, EReal.coe_mul_top_of_pos, EReal.coe_mul_top_of_neg,
            EReal.top_add_coe, EReal.bot_add, ha, hw]
           try simp only [← EReal.coe_mul, EReal.top_add_coe, EReal.bot_add])
  | top =>
    rcases lt_trichotomy a 0 with ha | ha | ha <;> rcases lt_trichotomy w 0 with hw | hw | hw <;>
      first
        | (subst ha; simp)
        | (subst hw; simp)
        | (simp only [EReal.coe_mul, mul_assoc, EReal.coe_mul_bot_of_pos, EReal.coe_mul_bot_of_neg, EReal.coe_mul_top_of_pos, EReal.coe_mul_top_of_neg,
            EReal.top_add_coe, EReal.bot_add, ha, hw]
           try simp only [← EReal.coe_mul, EReal.top_add_coe, EReal.bot_add])

/-- What the kernel leaves at a place of weight `s i`, from the maximum `mx` and the sum `z` of the exponentials. -/
abbrev kernelAt (wg ag al si mx z : EReal) : EReal :=
  wg * ag * al + Ideal.div (wg * (1 - ag)) z * Ideal.exp (si - mx)

/-- What the reference leaves there. -/
abbrev referenceAt (wg ag al si mx z : EReal) : EReal :=
  wg * (ag * al + (1 - ag) * Ideal.div (Ideal.exp (si - mx)) z)

/-- With finite similarities and finite gates the kernel's value is the reference's. -/
theorem kernelAt_eq {s : Fin 16384 → EReal} (hs : ∀ i, Finite (s i)) {ag wg : EReal} (hag : Finite ag) (hwg : Finite wg)
    (al : EReal) (i : Fin 16384) :
    kernelAt wg ag al (s i) (Finset.univ.fold max lowest s) (∑ j, Ideal.exp (s j - Finset.univ.fold max lowest s))
      = referenceAt wg ag al (s i) (max lowest (Finset.univ.fold max lowest s))
          (∑ j, Ideal.exp (s j - max lowest (Finset.univ.fold max lowest s))) := by
  rw [show max lowest (Finset.univ.fold max lowest s) = Finset.univ.fold max lowest s by rw [lowest_eq]; exact max_eq_right bot_le]
  obtain ⟨μ, hμ⟩ := max_finite hs
  rw [hμ]
  choose g hg using hs
  have he : ∀ j, Ideal.exp (s j - μ) = (Real.exp (g j - μ) : EReal) := fun j => by rw [hg j, ← EReal.coe_sub, Ideal.exp_coe]
  simp only [kernelAt, referenceAt, he]
  rw [show ∑ j, ((Real.exp (g j - μ) : ℝ) : EReal) = ((∑ j, Real.exp (g j - μ) : ℝ) : EReal) from
    coe_sum Finset.univ fun j => Real.exp (g j - μ)]
  exact blend hag hwg al (Finset.sum_pos (fun j _ => Real.exp_pos _) Finset.univ_nonempty).ne'

/-- A value whose absolute value is below infinity is finite. -/
theorem finite_of_abs {x : EReal} (h : max x (-x) < ⊤) : Finite x := by
  refine .of_ne ?_ ?_ <;> rintro rfl <;> simp at h

end Cert.Weights

end
-- ==== Proof.Value.lean ====
/- What the kernel's two TensorCore calls leave in their result arrays, index by index. -/
module

public import proofs.«01_k».proof.Proof.Main
public import proofs.«01_k».proof.Proof.Softmax
public import Idealize.ShloMosaic.Lib.Pointwise
public import Idealize.ShloMosaic.Lib.Pipeline.ValueKit

@[expose] public section

set_option maxRecDepth 16384

noncomputable section

namespace Cert.KernelIdeal.Value

open Cert.KernelIdeal Cert.KernelIdeal.Gen Cert.KernelIdeal.Dense Cert.Weights
open Idealize.ShloMosaic Idealize.ShloMosaic.TcCoe Idealize.SL.Sem
open Idealize.ShloMosaic.Pipeline (Dat)

section Regions

variable (V : (c : Dev nD) → (b : Ref sig .tc) → Buf (Elt Ideal) ((c : Thread nD τ).loc b))

/-! ## The first call: inner products and sums of squares, a block of 1024 rows at a time -/

theorem idx1 : ∀ t : Fin cfg1.N, win1_0.index t = ![t.val + 1, 0] ∧ win1_1.index t = ![0, 0] ∧ win1_2.index t = ![t.val, 0, 0] ∧ win1_3.index t = ![t.val, 0, 0] :=
  (by decide +kernel : ∀ t : Fin grid1.N, _)

/-- Row `1024 * t + r` of the memory against the key. -/
def dotsOf (M : FVec Ideal S16384x256 .f32) (K : FVec Ideal S256x8 .f32) : FVec Ideal S15x1x1024 .f32 :=
  fun i => ∑ j : Fin 256, M (ix2 ⟨((i 0).val + 1) * 1024 + (i 2).val, by have := (i 0).isLt; have := (i 2).isLt; simp at *; omega⟩ j) * K (ix2 j 0)

/-- Row `1024 * t + r` of the memory squared and summed. -/
def squaresOf (M : FVec Ideal S16384x256 .f32) : FVec Ideal S15x1x1024 .f32 :=
  fun i => ∑ j : Fin 256, M (ix2 ⟨((i 0).val + 1) * 1024 + (i 2).val, by have := (i 0).isLt; have := (i 2).isLt; simp at *; omega⟩ j)
    * M (ix2 ⟨((i 0).val + 1) * 1024 + (i 2).val, by have := (i 0).isLt; have := (i 2).isLt; simp at *; omega⟩ j)

theorem dots_final (c : Dev nD) : (data1 V c).arrAt 2 cfg1.N = dotsOf (V c main_arg0) (V c main_v2) := by
  refine (data1 V c).arrAt_eq_of_covers 2 _ (by decide +kernel) fun t _ y => ?_
  blk_simp
  rw [after1_dots, dotsBlock]
  frame_out
  pointwise [k1_pay1, dotsOf]
  blk_point [part1, idx1 t]

theorem squares_final (c : Dev nD) : (data1 V c).arrAt 3 cfg1.N = squaresOf (V c main_arg0) := by
  refine (data1 V c).arrAt_eq_of_covers 3 _ (by decide +kernel) fun t _ y => ?_
  blk_simp
  rw [after1_squares, squaresBlock]
  frame_out
  pointwise [k1_pay2, squaresOf]
  blk_point [part1, idx1 t]

/-! ## The second call: the softmax over both parts, and the gates -/

theorem idx2 : ∀ t : Fin cfg2.N, win2_0.index t = ![0, 0] ∧ win2_1.index t = ![0, 0] ∧ win2_2.index t = ![0, 0] ∧ win2_3.index t = ![0, 0]
    ∧ win2_4.index t = ![0, 0] ∧ win2_5.index t = ![0, 0] ∧ win2_6.index t = ![0, 0] ∧ win2_7.index t = ![0, 0] ∧ win2_8.index t = ![0, 0]
    ∧ win2_9.index t = ![0, 0] :=
  (by decide +kernel : ∀ t : Fin grid2.N, _)

/-- The weights a part of the rows gets before the softmax, from its inner products and sums of squares. -/
def partOf {a : ℕ} (D Q : FVec Ideal ⟨2, ![a, 128]⟩ .f32) (K : FVec Ideal S2x128 .f32) (st : FVec Ideal S1x1 .f32) (x : Fin a) (y : Fin 128) : EReal :=
  sim (D (ix2 x y)) (Q (ix2 x y)) (Ideal.sqrt (∑ u : Fin 2, ∑ v : Fin 128, K (ix2 u v) * K (ix2 u v))) (st (ix2 0 0))

/-- The maximum over both parts. -/
def maxOf (s : Fin 8 → Fin 128 → EReal) (s' : Fin 120 → Fin 128 → EReal) : EReal :=
  max ((Finset.univ : Finset (Fin 8 × Fin 128)).fold max lowest fun x => s x.1 x.2)
    ((Finset.univ : Finset (Fin 120 × Fin 128)).fold max lowest fun x => s' x.1 x.2)

/-- The sum of the exponentials over both parts. -/
def expsOf (s : Fin 8 → Fin 128 → EReal) (s' : Fin 120 → Fin 128 → EReal) : EReal :=
  (∑ x : Fin 8, ∑ y : Fin 128, Ideal.exp (s x y - maxOf s s')) + ∑ x : Fin 120, ∑ y : Fin 128, Ideal.exp (s' x y - maxOf s s')

/-- The second call's result. -/
def phase2Of (D Q : FVec Ideal S8x128 .f32) (D' Q' : FVec Ideal S120x128 .f32) (K : FVec Ideal S2x128 .f32)
    (st ag wg : FVec Ideal S1x1 .f32) (al : FVec Ideal S128x128 .f32) : FVec Ideal S128x128 .f32 :=
  fun i => kernelAt (wg (ix2 0 0)) (ag (ix2 0 0)) (al i)
    (if h : (i 0).val < 8 then partOf D Q K st ⟨(i 0).val, h⟩ (i 1)
      else partOf D' Q' K st ⟨(i 0).val - 8, by have := (i 0).isLt; simp at *; omega⟩ (i 1))
    (maxOf (partOf D Q K st) (partOf D' Q' K st)) (expsOf (partOf D Q K st) (partOf D' Q' K st))

theorem pay7_eq (D Q : FVec Ideal S8x128 .f32) (D' Q' : FVec Ideal S120x128 .f32) (K : FVec Ideal S2x128 .f32)
    (st ag wg : FVec Ideal S1x1 .f32) (al : FVec Ideal S128x128 .f32) (a : Fin 8) (b : Fin 128) :
    k2_pay7 (F := Ideal) (k2_pay11 ag) (k2_pay12 wg) (k2_pay13 K st D Q) (k2_pay14 K st D' Q') (k2_pay15 K st D Q) al (ix2 a b)
      = phase2Of D Q D' Q' K st ag wg al (ix2 ⟨a.val, by omega⟩ b) := by
  pointwise [k2_pay1, k2_pay2, k2_pay3, k2_pay4, k2_pay5, k2_pay6, k2_pay7, k2_pay9, k2_pay10, k2_pay11, k2_pay12, k2_pay13, k2_pay14, k2_pay15,
    phase2Of, partOf, maxOf, expsOf]
  rfl

theorem pay8_eq (D Q : FVec Ideal S8x128 .f32) (D' Q' : FVec Ideal S120x128 .f32) (K : FVec Ideal S2x128 .f32)
    (st ag wg : FVec Ideal S1x1 .f32) (al : FVec Ideal S128x128 .f32) (a : Fin 120) (b : Fin 128) :
    k2_pay8 (F := Ideal) (k2_pay11 ag) (k2_pay12 wg) (k2_pay13 K st D Q) (k2_pay14 K st D' Q') (k2_pay15 K st D Q) al (ix2 a b)
      = phase2Of D Q D' Q' K st ag wg al (ix2 ⟨8 + a.val, by omega⟩ b) := by
  pointwise [k2_pay1, k2_pay2, k2_pay3, k2_pay4, k2_pay5, k2_pay6, k2_pay8, k2_pay9, k2_pay10, k2_pay11, k2_pay12, k2_pay13, k2_pay14, k2_pay15,
    phase2Of, partOf, maxOf, expsOf]
  rfl

set_option maxHeartbeats 1600000 in
/-- Each operand's one block is its whole array. -/
theorem whole2 (c : Dev nD) (t : Fin cfg2.N) :
    part2 V c 0 t = V c main_v4 ∧ part2 V c 1 t = V c main_v5 ∧ part2 V c 2 t = V c main_v6 ∧ part2 V c 3 t = V c main_v7 ∧ part2 V c 4 t = V c main_v8 ∧ part2 V c 5 t = V c main_v9 ∧ part2 V c 6 t = V c main_v10 ∧ part2 V c 7 t = V c main_v11 ∧ part2 V c 8 t = V c main_v12 := by
  refine ⟨?_, ?_, ?_, ?_, ?_, ?_, ?_, ?_, ?_⟩ <;> blk_ext! [part2, idx2 t]

theorem phase2_final (c : Dev nD) : (data2 V c).arrAt 9 cfg2.N
    = phase2Of (V c main_v4) (V c main_v5) (V c main_v6) (V c main_v7) (V c main_v8) (V c main_v9) (V c main_v10) (V c main_v11) (V c main_v12) := by
  refine (data2 V c).arrAt_eq_of_after_last 9 t2_0 (by decide +kernel) _ fun j => ?_
  blk_simp
  obtain ⟨e0, e1, e2, e3, e4, e5, e6, e7, e8⟩ := whole2 V c t2_0
  rw [after2_out, e0, e1, e2, e3, e4, e5, e6, e7, e8]
  unfold weightsBlock stores2
  frame_out
  canon_tiles x h using (View.cover_of_tiledBy _ ![8, 128] (by sl_kernel_rfl) j)
  case piece0 => rw [eq_ix2 x]; refine (pay8_eq _ _ _ _ _ _ _ _ _ _ _).trans (congrArg _ ?_); blk_ext
  case piece1 => rw [eq_ix2 x]; refine (pay7_eq _ _ _ _ _ _ _ _ _ _ _).trans (congrArg _ ?_); blk_ext

end Regions

end Cert.KernelIdeal.Value

end
-- ==== Proof.Chain.lean ====
/- The kernel's result array, read back through the host's reshapes and the three calls to the argument arrays. -/
module

public import proofs.«01_k».proof.Proof.Value
public import Idealize.ShloMosaic.Lib.StableHlo.Run
public import Idealize.ShloMosaic.Lib.Claim

@[expose] public section

set_option maxRecDepth 16384

noncomputable section

namespace Cert.KernelIdeal.Value

open Cert.KernelIdeal Cert.KernelIdeal.Gen Cert.KernelIdeal.Tile Cert.KernelIdeal.Call Cert.KernelIdeal.Main Cert.Weights
open Idealize.ShloMosaic Idealize.ShloMosaic.TcCoe Idealize.SL.Sem

variable (m : (ℓ : Loc nD τ sig) → Buf (Elt Ideal) ℓ)

/-- The kernel's result, as a function of its arguments. -/
def resultOf (M : FVec Ideal S16384x256 .f32) (k : FVec Ideal S256 .f32) (st ag wg : FVec Ideal S1 .f32) (al : FVec Ideal S16384 .f32) :
    FVec Ideal S16384 .f32 :=
  let K := broadcastInDim S256x8 ![0, 1] bcast_S256x1_S256x8_0_1 (broadcastInDim S256x1 ![0] bcast_S256_S256x1_0 k)
  shapeCast S16384 (phase2Of (shapeCast S8x128 (scDots (F := Ideal) M k) shapeCasts_S1024_S8x128) (shapeCast S8x128 (scSquares (F := Ideal) M) shapeCasts_S1024_S8x128)
    (shapeCast S120x128 (dotsOf M K) shapeCasts_S15x1x1024_S120x128) (shapeCast S120x128 (squaresOf M) shapeCasts_S15x1x1024_S120x128)
    (shapeCast S2x128 k shapeCasts_S256_S2x128) (shapeCast S1x1 st shapeCasts_S1_S1x1) (shapeCast S1x1 ag shapeCasts_S1_S1x1)
    (shapeCast S1x1 wg shapeCasts_S1_S1x1) (shapeCast S128x128 al shapeCasts_S16384_S128x128)) shapeCasts_S128x128_S16384

theorem E2_dots (c : Dev nD) : E2 m c main_v3_0 = dotsOf (E1 m c main_arg0) (E1 m c main_v2) :=
  (E2_arr m c 2).trans (dots_final (V1 m) c)
theorem E2_squares (c : Dev nD) : E2 m c main_v3_1 = squaresOf (E1 m c main_arg0) :=
  (E2_arr m c 3).trans (squares_final (V1 m) c)
theorem E4_weights (c : Dev nD) : E4 m c main_v13 = phase2Of (V3 m c main_v4) (V3 m c main_v5) (V3 m c main_v6) (V3 m c main_v7)
    (V3 m c main_v8) (V3 m c main_v9) (V3 m c main_v10) (V3 m c main_v11) (V3 m c main_v12) :=
  (E4_arr m c 9).trans (phase2_final (V3 m) c)

/-! ## The host's lines between the calls -/

theorem after_key (X : Valuation τ sig (Elt Ideal)) : StableHlo.after keyOps X main_v2
    = broadcastInDim S256x8 ![0, 1] bcast_S256x1_S256x8_0_1 (broadcastInDim S256x1 ![0] bcast_S256_S256x1_0 (X main_arg1)) := by
  after_results_simp

theorem after_view (X : Valuation τ sig (Elt Ideal)) :
    StableHlo.after viewOps X main_v4 = shapeCast S8x128 (X main_v0_0) shapeCasts_S1024_S8x128
    ∧ StableHlo.after viewOps X main_v5 = shapeCast S8x128 (X main_v0_1) shapeCasts_S1024_S8x128
    ∧ StableHlo.after viewOps X main_v6 = shapeCast S120x128 (X main_v3_0) shapeCasts_S15x1x1024_S120x128
    ∧ StableHlo.after viewOps X main_v7 = shapeCast S120x128 (X main_v3_1) shapeCasts_S15x1x1024_S120x128
    ∧ StableHlo.after viewOps X main_v8 = shapeCast S2x128 (X main_arg1) shapeCasts_S256_S2x128
    ∧ StableHlo.after viewOps X main_v9 = shapeCast S1x1 (X main_arg2) shapeCasts_S1_S1x1
    ∧ StableHlo.after viewOps X main_v10 = shapeCast S1x1 (X main_arg3) shapeCasts_S1_S1x1
    ∧ StableHlo.after viewOps X main_v11 = shapeCast S1x1 (X main_arg4) shapeCasts_S1_S1x1
    ∧ StableHlo.after viewOps X main_v12 = shapeCast S128x128 (X main_arg5) shapeCasts_S16384_S128x128 := by
  refine ⟨?_, ?_, ?_, ?_, ?_, ?_, ?_, ?_, ?_⟩ <;> (after_results_simp; rfl)

/-- The SparseCore call's results are still there when the second TensorCore call is entered. -/
theorem E2_sc (c : Dev nD) : E2 m c main_v0_0 = scDots (m ((c : Thread nD τ).loc main_arg0)) (m ((c : Thread nD τ).loc main_arg1))
    ∧ E2 m c main_v0_1 = scSquares (m ((c : Thread nD τ).loc main_arg0)) :=
  ⟨(E2_of m c main_v0_0 (by decide +kernel)).trans ((E1_of m c main_v0_0 (by decide)).trans (called_dots m c)),
   (E2_of m c main_v0_1 (by decide +kernel)).trans ((E1_of m c main_v0_1 (by decide)).trans (called_squares m c))⟩

theorem result (c : Dev nD) : E5 m c main_v14 = resultOf (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  have h14 : E5 m c main_v14 = shapeCast S16384 (E4 m c main_v13) shapeCasts_S128x128_S16384 := by
    show StableHlo.after lastOps (E4 m c) main_v14 = _
    generalize E4 m c = X
    after_results_simp
    rfl
  have h2 : E1 m c main_v2 = _ := after_key (called m c)
  obtain ⟨e4, e5, e6, e7, e8, e9, e10, e11, e12⟩ := after_view (E2 m c)
  rw [h14, E4_weights, show V3 m c main_v4 = _ from e4, show V3 m c main_v5 = _ from e5, show V3 m c main_v6 = _ from e6,
    show V3 m c main_v7 = _ from e7, show V3 m c main_v8 = _ from e8, show V3 m c main_v9 = _ from e9, show V3 m c main_v10 = _ from e10,
    show V3 m c main_v11 = _ from e11, show V3 m c main_v12 = _ from e12, (E2_sc m c).1, (E2_sc m c).2,
    E2_arg m c main_arg1 (by decide), E2_arg m c main_arg2 (by decide), E2_arg m c main_arg3 (by decide), E2_arg m c main_arg4 (by decide),
    E2_arg m c main_arg5 (by decide), E2_dots, E2_squares, h2, E1_arg m c main_arg0 (by decide), called_arg m c main_arg1 (by decide)]
  rfl

end Cert.KernelIdeal.Value

end
-- ==== Proof.Lanes.lean ====
/-
  What the SparseCore call computes at the extended reals: lane `l` of a folded group is the sum of the
  sixteen partial sums of row `l`, so every entry of its results is a row's inner product with the key,
  or with itself.
-/
module

public import proofs.«01_k».proof.Proof.Task
public import Idealize.ShloMosaic.Lib.Pointwise

@[expose] public section

noncomputable section

namespace Cert.KernelIdeal.Lanes

open Cert.KernelIdeal Cert.KernelIdeal.Gen Cert.KernelIdeal.Tile
open Idealize.ShloMosaic Idealize.ShloMosaic.TcCoe

/-- The lane across the bits of `sh` from lane `l`. -/
def across (sh : BitVec 32) (l : Fin 16) : Fin 16 := ⟨(BitVec.ofNat 32 l.val ^^^ sh).toNat % 16, Nat.mod_lt _ (by decide)⟩
/-- Lane `l` has none of the bits of `sh`. -/
def without (sh : BitVec 32) (l : Fin 16) : Bool := IntOp.cmpi .eq (BitVec.ofNat 32 l.val &&& sh) 0#32 = 1#1
/-- Lane `l`'s bits reversed. -/
def turned (l : Fin 16) : Fin 16 := ⟨(rev (ix1 l)).toNat % 16, Nat.mod_lt _ (by decide)⟩

theorem lane_at (l : Fin 16) : lane (ix1 l) = BitVec.ofNat 32 l.val := by
  revert l; decide

theorem joined_at (sh : BitVec 32) (x y : FVec Ideal S16 .f32) (l : Fin 16) :
    joined (F := Ideal) sh x y (ix1 l)
      = bif without sh l then (x (ix1 l) + x (ix1 (across sh l)) : EReal) else (y (ix1 l) + y (ix1 (across sh l)) : EReal) := by
  have e : (flip sh (ix1 l)).toNat % 16 = (across sh l).val := by
    show ((lane (ix1 l)) ^^^ sh).toNat % 16 = _
    rw [lane_at]; rfl
  have hf : ∀ z : FVec Ideal S16 .f32, folded (F := Ideal) sh z (ix1 l) = (z (ix1 l) + z (ix1 (across sh l)) : EReal) := fun z => by
    show (z (ix1 l) + z (ix1 ⟨(flip sh (ix1 l)).toNat % 16, _⟩) : EReal) = _
    congr 3
    exact Fin.ext e
  show (if IntOp.cmpi .eq (lane (ix1 l) &&& sh) 0#32 = 1#1 then folded (F := Ideal) sh x (ix1 l) else folded (F := Ideal) sh y (ix1 l)) = _
  rw [hf, hf, lane_at]
  unfold without
  by_cases h : IntOp.cmpi .eq (BitVec.ofNat 32 l.val &&& sh) 0#32 = 1#1 <;> simp [h]

/-- The bits of a lane are not changed by going across others. -/
theorem without_across : ∀ l : Fin 16,
    without 2#32 (across 1#32 l) = without 2#32 l ∧ without 4#32 (across 1#32 l) = without 4#32 l ∧ without 8#32 (across 1#32 l) = without 8#32 l
      ∧ without 4#32 (across 2#32 l) = without 4#32 l ∧ without 8#32 (across 2#32 l) = without 8#32 l ∧ without 8#32 (across 4#32 l) = without 8#32 l := by
  decide +kernel

/-- The bits of the lane that row `8 n + r` is folded into. -/
theorem without_turned : ∀ (n : Fin 2) (r : Fin 8),
    without 1#32 (turned ⟨8 * n.val + r.val, by omega⟩) = decide (n = 0)
      ∧ without 2#32 (turned ⟨8 * n.val + r.val, by omega⟩) = decide (r.val < 4)
      ∧ without 4#32 (turned ⟨8 * n.val + r.val, by omega⟩) = decide (r.val % 4 < 2)
      ∧ without 8#32 (turned ⟨8 * n.val + r.val, by omega⟩) = decide (r.val % 2 < 1) := by
  decide +kernel

/-- The sum over the lanes reached from `l` across the bits of a list. -/
def reached (g : Fin 16 → EReal) : List (BitVec 32) → Fin 16 → EReal
  | [], l => g l
  | sh :: shs, l => reached g shs l + reached g shs (across sh l)

/-- Lane `k` moved by the bits of lane `l`. -/
def moved (l k : Fin 16) : Fin 16 := ⟨(BitVec.ofNat 32 k.val ^^^ BitVec.ofNat 32 l.val).toNat % 16, Nat.mod_lt _ (by decide)⟩
theorem moved_moved : ∀ l : Fin 16, Function.Involutive (moved l) := by unfold Function.Involutive; decide +kernel
theorem moved_zero : ∀ l : Fin 16, moved l 0 = l := by decide +kernel
theorem across_moved : ∀ sh ∈ [1#32, 2#32, 4#32, 8#32], ∀ l k : Fin 16, across sh (moved l k) = moved l (across sh k) := by
  intro sh h
  simp only [List.mem_cons, List.not_mem_nil, or_false] at h
  obtain rfl | rfl | rfl | rfl := h <;> decide +kernel

theorem reached_moved (g : Fin 16 → EReal) (l : Fin 16) : ∀ (shs : List (BitVec 32)) (_ : ∀ sh ∈ shs, sh ∈ [1#32, 2#32, 4#32, 8#32]) (k : Fin 16),
    reached g shs (moved l k) = reached (fun k => g (moved l k)) shs k
  | [], _, k => rfl
  | sh :: shs, h, k => by
    unfold reached
    rw [across_moved sh (h sh List.mem_cons_self) l k, reached_moved g l shs (fun s hs => h s (List.mem_cons_of_mem _ hs)) k,
      reached_moved g l shs (fun s hs => h s (List.mem_cons_of_mem _ hs)) (across sh k)]

/-- Across all four bits every lane is reached once. -/
theorem reached_all (g : Fin 16 → EReal) (l : Fin 16) : reached g [1#32, 2#32, 4#32, 8#32] l = ∑ k, g k := by
  have h := reached_moved g l [1#32, 2#32, 4#32, 8#32] (fun _ h => h) 0
  rw [moved_zero] at h
  rw [h, ← Equiv.sum_comp ((moved_moved l).toPerm _) g]
  show reached (fun k => g (moved l k)) _ 0 = ∑ k, g (moved l k)
  generalize (fun k => g (moved l k)) = f
  have e : reached f [1#32, 2#32, 4#32, 8#32] 0 = (((f 0 + f 8) + (f 4 + f 12)) + ((f 2 + f 10) + (f 6 + f 14)))
      + (((f 1 + f 9) + (f 5 + f 13)) + ((f 3 + f 11) + (f 7 + f 15))) := by
    simp only [reached]
    rfl
  have s : ∑ k, f k = f 0 + (f 1 + (f 2 + (f 3 + (f 4 + (f 5 + (f 6 + (f 7 + (f 8 + (f 9 + (f 10 + (f 11 + (f 12 + (f 13 + (f 14 + f 15)))))))))))))) := by
    simp only [Fin.sum_univ_succ, Fin.sum_univ_zero, Fin.reduceSucc, Fin.isValue, add_zero]
  rw [e, s]
  ac_rfl

/-- Lane `l` of a group is the sum of the partial sums of row `l`. -/
theorem grouped_at (xs : Fin 2 → Fin 8 → FVec Ideal S16 .f32) (n : Fin 2) (r : Fin 8) :
    grouped (F := Ideal) xs (ix1 ⟨8 * n.val + r.val, by omega⟩) = (∑ k : Fin 16, xs n r (ix1 k) : EReal) := by
  have h : grouped (F := Ideal) xs (ix1 ⟨8 * n.val + r.val, by omega⟩)
      = joined (F := Ideal) 1#32 (batched (xs 0)) (batched (xs 1)) (ix1 (turned ⟨8 * n.val + r.val, by omega⟩)) := rfl
  rw [h, joined_at, ← reached_all (fun k => xs n r (ix1 k)) (turned ⟨8 * n.val + r.val, by omega⟩)]
  obtain ⟨t1, t2, t4, t8⟩ := without_turned n r
  generalize turned ⟨8 * n.val + r.val, by omega⟩ = l at *
  simp only [batched, joinedAll, joinedPairs, List.map, List.headD, joined_at, reached,
    fun l => (without_across l).1, fun l => (without_across l).2.1, fun l => (without_across l).2.2.1, fun l => (without_across l).2.2.2.1,
    fun l => (without_across l).2.2.2.2.1, fun l => (without_across l).2.2.2.2.2, t1, t2, t4, t8]
  fin_cases n <;> fin_cases r <;> rfl

/-- A row's partial sum in a lane. -/
theorem partials_at (v w : Fin 16 → FVec Ideal S16 .f32) (k : Fin 16) :
    partials (F := Ideal) v w (ix1 k) = (∑ j : Fin 16, v j (ix1 k) * w j (ix1 k) : EReal) := by
  simp only [Fin.sum_univ_succ, Fin.sum_univ_zero, Fin.reduceSucc, Fin.isValue, add_zero, ← add_assoc]
  rfl

/-- The rows of a block, summed against `w` along all the columns. -/
theorem columns (f : Fin 256 → EReal) : (∑ k : Fin 16, ∑ j : Fin 16, f ⟨16 * j.val + k.val, by omega⟩) = ∑ c, f c := by
  rw [Finset.sum_comm, Fin.sum_univ_tiles 16 16 rfl f]
  exact Finset.sum_congr rfl fun j _ => Finset.sum_congr rfl fun k _ => congrArg f (Fin.ext (by dsimp only; omega))

theorem row_number (x : Fin 1024) : ∃ (n : Fin 2) (r : Fin 8), x.val % 16 = 8 * n.val + r.val :=
  ⟨⟨x.val % 16 / 8, by omega⟩, ⟨x.val % 8, by omega⟩, by show _ = 8 * (x.val % 16 / 8) + x.val % 8; omega⟩

theorem scDots_at (fM : FVec Ideal S16384x256 .f32) (fK : FVec Ideal S256 .f32) (x : Fin 1024) :
    scDots (F := Ideal) fM fK (ix1 x) = (∑ c : Fin 256, fM (ix2 ⟨x.val, by omega⟩ c) * fK (ix1 c) : EReal) := by
  obtain ⟨n, r, h⟩ := row_number x
  have hl : laneOf (ix1 x) = ix1 ⟨8 * n.val + r.val, by omega⟩ := congrArg ix1 (Fin.ext h)
  unfold scDots groupDots
  rw [hl, grouped_at]
  simp only [partials_at]
  rw [← columns]
  refine Finset.sum_congr rfl fun k _ => Finset.sum_congr rfl fun j _ => ?_
  unfold rowPart keyPart blockRows blockOf groupOf
  refine congrArg₂ _ (congrArg fM (congrArg₂ ix2 (Fin.ext ?_) (Fin.ext rfl))) rfl
  show 32 * (x.val / 32) + (16 * (x.val % 32 / 16) + 8 * n.val + r.val) = x.val
  omega

theorem scSquares_at (fM : FVec Ideal S16384x256 .f32) (x : Fin 1024) :
    scSquares (F := Ideal) fM (ix1 x) = (∑ c : Fin 256, fM (ix2 ⟨x.val, by omega⟩ c) * fM (ix2 ⟨x.val, by omega⟩ c) : EReal) := by
  obtain ⟨n, r, h⟩ := row_number x
  have hl : laneOf (ix1 x) = ix1 ⟨8 * n.val + r.val, by omega⟩ := congrArg ix1 (Fin.ext h)
  unfold scSquares groupSquares
  rw [hl, grouped_at]
  simp only [partials_at]
  rw [← columns]
  refine Finset.sum_congr rfl fun k _ => Finset.sum_congr rfl fun j _ => ?_
  unfold rowPart blockRows blockOf groupOf
  have e : ∀ y : Fin 16384, y.val = 32 * (x.val / 32) + (16 * (x.val % 32 / 16) + 8 * n.val + r.val) → y = ⟨x.val, by omega⟩ := fun y hy => Fin.ext (by show y.val = x.val; omega)
  refine congrArg₂ _ (congrArg fM (congrArg₂ ix2 (e _ rfl) (Fin.ext rfl))) (congrArg fM (congrArg₂ ix2 (e _ rfl) (Fin.ext rfl)))

end Cert.KernelIdeal.Lanes
-- ==== Proof.Equation.lean ====
/- The kernel's result, place by place, is the reference's. -/
module

public import proofs.«01_k».proof.Proof.Chain
public import proofs.«01_k».proof.Proof.Lanes
public import proofs.«01_k».proof.Proof.Gen.ReferenceIdeal.Run
public import proofs.«01_k».proof.Pre_scalars_finite

@[expose] public section

set_option maxRecDepth 16384

noncomputable section

namespace Cert.KernelIdeal.Value

open Cert.KernelIdeal Cert.KernelIdeal.Gen Cert.KernelIdeal.Tile Cert.Weights
open Idealize.ShloMosaic Idealize.ShloMosaic.TcCoe Idealize.SL.Sem

/-! ## The result against the reference's formula -/

/-- The weight of each row before the softmax. -/
def weight (M : FVec Ideal S16384x256 .f32) (k : FVec Ideal S256 .f32) (st : FVec Ideal S1 .f32) (i : Fin 16384) : EReal :=
  sim (∑ j : Fin 256, M (ix2 i j) * k (ix1 j)) (∑ j : Fin 256, M (ix2 i j) * M (ix2 i j)) (Ideal.sqrt (∑ j : Fin 256, k (ix1 j) * k (ix1 j))) (st (ix1 0))

theorem key_norm (k : FVec Ideal S256 .f32) :
    ∑ u : Fin 2, ∑ v : Fin 128, shapeCast S2x128 k shapeCasts_S256_S2x128 (ix2 u v) * shapeCast S2x128 k shapeCasts_S256_S2x128 (ix2 u v)
      = ∑ j : Fin 256, k (ix1 j) * k (ix1 j) := by
  pointwise []
  exact (Fin.sum_univ_tiles 2 128 rfl fun j : Fin 256 => k (ix1 j) * k (ix1 j)).symm

variable (M : FVec Ideal S16384x256 .f32) (k : FVec Ideal S256 .f32) (st ag wg : FVec Ideal S1 .f32) (al : FVec Ideal S16384 .f32)

theorem cast_at (X : FVec Ideal S15x1x1024 .f32) (a : Fin 120) (b : Fin 128) : ∃ (t : Fin 15) (r : Fin 1024), t.val * 1024 + r.val = a.val * 128 + b.val ∧
    shapeCast S120x128 X shapeCasts_S15x1x1024_S120x128 (ix2 a b) = X (ix3 t 0 r) := by
  pointwise []
  refine ⟨_, _, ?_, rfl⟩
  dsimp only
  omega

/-- The TensorCore call's rows, after the first 1024. -/
theorem dots_at (a : Fin 120) (b : Fin 128) : shapeCast S120x128 (dotsOf M (broadcastInDim S256x8 ![0, 1] bcast_S256x1_S256x8_0_1 (broadcastInDim S256x1 ![0] bcast_S256_S256x1_0 k))) shapeCasts_S15x1x1024_S120x128 (ix2 a b)
    = ∑ j : Fin 256, M (ix2 (hi a b) j) * k (ix1 j) := by
  obtain ⟨t, r, h, e⟩ := cast_at (dotsOf M (broadcastInDim S256x8 ![0, 1] bcast_S256x1_S256x8_0_1 (broadcastInDim S256x1 ![0] bcast_S256_S256x1_0 k))) a b
  rw [e]
  show ∑ j : Fin 256, M (ix2 ⟨(t.val + 1) * 1024 + r.val, _⟩ j) * _ = _
  rw [show (⟨(t.val + 1) * 1024 + r.val, by omega⟩ : Fin 16384) = hi a b from Fin.ext (by simp only [hi]; omega)]
  pointwise []

theorem squares_at (a : Fin 120) (b : Fin 128) : shapeCast S120x128 (squaresOf M) shapeCasts_S15x1x1024_S120x128 (ix2 a b)
    = ∑ j : Fin 256, M (ix2 (hi a b) j) * M (ix2 (hi a b) j) := by
  obtain ⟨t, r, h, e⟩ := cast_at (squaresOf M) a b
  rw [e]
  show ∑ j : Fin 256, M (ix2 ⟨(t.val + 1) * 1024 + r.val, _⟩ j) * M (ix2 ⟨(t.val + 1) * 1024 + r.val, _⟩ j) = _
  rw [show (⟨(t.val + 1) * 1024 + r.val, by omega⟩ : Fin 16384) = hi a b from Fin.ext (by simp only [hi]; omega)]

/-- The SparseCore call's rows, the first 1024. -/
theorem cast_lo (X : FVec Ideal S1024 .f32) (a : Fin 8) (b : Fin 128) :
    shapeCast S8x128 X shapeCasts_S1024_S8x128 (ix2 a b) = X (ix1 ⟨a.val * 128 + b.val, by omega⟩) := by
  pointwise []

theorem lo_row (a : Fin 8) (b : Fin 128) (h : a.val * 128 + b.val < 16384) : (⟨a.val * 128 + b.val, h⟩ : Fin 16384) = lo a b :=
  Fin.ext (by simp only [lo])

theorem part_lo : partOf (shapeCast S8x128 (scDots (F := Ideal) M k) shapeCasts_S1024_S8x128) (shapeCast S8x128 (scSquares (F := Ideal) M) shapeCasts_S1024_S8x128)
      (shapeCast S2x128 k shapeCasts_S256_S2x128) (shapeCast S1x1 st shapeCasts_S1_S1x1) = fun a b => weight M k st (lo a b) := by
  funext a b
  unfold partOf
  rw [key_norm, cast_lo, cast_lo, Lanes.scDots_at, Lanes.scSquares_at, lo_row]
  pointwise [weight]

theorem part_hi : partOf (shapeCast S120x128 (dotsOf M (broadcastInDim S256x8 ![0, 1] bcast_S256x1_S256x8_0_1 (broadcastInDim S256x1 ![0] bcast_S256_S256x1_0 k))) shapeCasts_S15x1x1024_S120x128)
      (shapeCast S120x128 (squaresOf M) shapeCasts_S15x1x1024_S120x128)
      (shapeCast S2x128 k shapeCasts_S256_S2x128) (shapeCast S1x1 st shapeCasts_S1_S1x1) = fun a b => weight M k st (hi a b) := by
  funext a b
  unfold partOf
  rw [key_norm, dots_at, squares_at]
  pointwise [weight]

/-- The second call at a place, its parts' weights given. -/
theorem phase2Of_at {D Q : FVec Ideal S8x128 .f32} {D' Q' : FVec Ideal S120x128 .f32} {K : FVec Ideal S2x128 .f32} {t : FVec Ideal S1x1 .f32}
    {s : Fin 8 → Fin 128 → EReal} {s' : Fin 120 → Fin 128 → EReal} (hs : partOf D Q K t = s) (hs' : partOf D' Q' K t = s')
    (g w : FVec Ideal S1x1 .f32) (l : FVec Ideal S128x128 .f32) (a b : Fin 128) :
    phase2Of D Q D' Q' K t g w l (ix2 a b) = kernelAt (w (ix2 0 0)) (g (ix2 0 0)) (l (ix2 a b))
      (if h : a.val < 8 then s ⟨a.val, h⟩ b else s' ⟨a.val - 8, by omega⟩ b) (maxOf s s') (expsOf s s') := by
  subst hs hs'
  rfl

/-- The kernel's result at a place. -/
theorem resultOf_at (i : Fin 16384) : resultOf M k st ag wg al (ix1 i)
    = kernelAt (wg (ix1 0)) (ag (ix1 0)) (al (ix1 i)) (weight M k st i) (Finset.univ.fold max lowest (weight M k st))
        (∑ j, Ideal.exp (weight M k st j - Finset.univ.fold max lowest (weight M k st))) := by
  unfold resultOf
  pointwise []
  rw [phase2Of_at (part_lo M k st) (part_hi M k st)]
  have hm : maxOf (fun a b => weight M k st (lo a b)) (fun a b => weight M k st (hi a b)) = Finset.univ.fold max lowest (weight M k st) := max_parts _
  have he : expsOf (fun a b => weight M k st (lo a b)) (fun a b => weight M k st (hi a b))
      = ∑ j, Ideal.exp (weight M k st j - Finset.univ.fold max lowest (weight M k st)) := by
    unfold expsOf
    rw [hm]
    exact sum_parts fun j => Ideal.exp (weight M k st j - Finset.univ.fold max lowest (weight M k st))
  rw [hm, he]
  pointwise []
  congr 1
  split
  all_goals exact congrArg _ (Fin.ext (by simp only [lo, hi]; omega))

/-- Under finite gates and a finite strength the kernel's result is the reference's. -/
theorem resultOf_eq (hst : Finite (st (ix1 0))) (hag : Finite (ag (ix1 0))) (hwg : Finite (wg (ix1 0))) (i : Fin 16384) :
    resultOf M k st ag wg al (ix1 i)
      = referenceAt (wg (ix1 0)) (ag (ix1 0)) (al (ix1 i)) (weight M k st i) (max lowest (Finset.univ.fold max lowest (weight M k st)))
        (∑ j, Ideal.exp (weight M k st j - max lowest (Finset.univ.fold max lowest (weight M k st)))) := by
  rw [resultOf_at]
  exact kernelAt_eq (fun j => sim_finite (fun n => M (ix2 j n)) (fun n => k (ix1 n)) hst) hag hwg _ i

/-- The reference's result at a place. -/
theorem reference_at (m : (ℓ : Loc Cert.ReferenceIdeal.nD Cert.ReferenceIdeal.τ Cert.ReferenceIdeal.sig) → Buf (Elt Ideal) ℓ) (c : Dev Cert.ReferenceIdeal.nD)
    {M : FVec Ideal S16384x256 .f32} {k : FVec Ideal S256 .f32} {st ag wg : FVec Ideal S1 .f32} {al : FVec Ideal S16384 .f32}
    (h0 : m ((c.tc : Thread _ _).loc Cert.ReferenceIdeal.main_arg0) = M) (h1 : m ((c.tc : Thread _ _).loc Cert.ReferenceIdeal.main_arg1) = k)
    (h2 : m ((c.tc : Thread _ _).loc Cert.ReferenceIdeal.main_arg2) = st) (h3 : m ((c.tc : Thread _ _).loc Cert.ReferenceIdeal.main_arg3) = ag)
    (h4 : m ((c.tc : Thread _ _).loc Cert.ReferenceIdeal.main_arg4) = wg) (h5 : m ((c.tc : Thread _ _).loc Cert.ReferenceIdeal.main_arg5) = al)
    (i : Fin 16384) : Cert.ReferenceIdeal.Value.res_out0 m c (ix1 i)
      = referenceAt (wg (ix1 0)) (ag (ix1 0)) (al (ix1 i)) (weight M k st i) (max lowest (Finset.univ.fold max lowest (weight M k st)))
        (∑ j, Ideal.exp (weight M k st j - max lowest (Finset.univ.fold max lowest (weight M k st)))) := by
  subst h0 h1 h2 h3 h4 h5
  unfold Cert.ReferenceIdeal.Value.res_out0 Cert.ReferenceIdeal.Value.res_main_v32
  pointwise []
  rfl

/-- What the precondition says of the three scalars. -/
theorem of_pre [Cert.Pre_scalars_finite.Facts] (h : Cert.Pre_scalars_finite.fn (F := Ideal) M k st ag wg al = fun _ => 1#1) :
    Finite (st (ix1 0)) ∧ Finite (ag (ix1 0)) ∧ Finite (wg (ix1 0)) := by
  have h := congrFun h ix0
  unfold Cert.Pre_scalars_finite.fn at h
  revert h
  pointwise []
  have infinity : Ideal.ofBits .f32 2139095040#32 = ⊤ := by simp [Ideal.ofBits]; decide
  have bit : ∀ x y : BitVec 1, IntOp.andi x y = 1#1 → x = 1#1 ∧ y = 1#1 := by decide
  have one : ∀ x : EReal, BitVec.ofBool (decide (FloatOps.absf (F := Ideal) (φ := .f32) x < (⊤ : EReal))) = 1#1 → Finite x := fun x hx => by
    refine finite_of_abs ?_
    by_contra hn
    have : decide (FloatOps.absf (F := Ideal) (φ := .f32) x < (⊤ : EReal)) = false := decide_eq_false hn
    rw [this] at hx
    exact absurd hx (by decide)
  simp only [Finset.univ_unique, Finset.fold_singleton, infinity]
  intro h
  obtain ⟨h, h3⟩ := bit _ _ h
  obtain ⟨h1, h2⟩ := bit _ _ h
  exact ⟨one _ (bit _ _ h1).1, one _ (bit _ _ h2).1, one _ (bit _ _ h3).1⟩

end Cert.KernelIdeal.Value

end
-- ==== Proof.lean ====
/- The kernel — a SparseCore call over the first rows, a TensorCore call over the others, the softmax over both and the host's
   lines between them — runs, leaves its arguments alone and, at the extended reals and under finite gates and strength, computes
   the reference's write weights. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem

/-- The shape relations the precondition's operations take. -/
theorem pre_facts : Cert.Pre_scalars_finite.Facts := ⟨by decide, by decide, by decide⟩

open Cert.KernelIdeal Cert.KernelIdeal.Main in
/-- What the run leaves of the arguments. -/
theorem kept {F : FTy → Type} [FloatOps F] {m : (ℓ : Loc nD τ sig) → Buf (Elt F) ℓ} {x : (ℓ : Loc nD τ sig) → Buf (Elt F) ℓ} {c : Dev nD}
    (h : ∀ a ∈ arguments, x ((c.tc : Thread nD τ).loc a) = m ((c.tc : Thread nD τ).loc a)) :
    x ((c.tc : Thread nD τ).loc main_arg0) = m ((c.tc : Thread nD τ).loc main_arg0)
    ∧ x ((c.tc : Thread nD τ).loc main_arg1) = m ((c.tc : Thread nD τ).loc main_arg1)
    ∧ x ((c.tc : Thread nD τ).loc main_arg2) = m ((c.tc : Thread nD τ).loc main_arg2)
    ∧ x ((c.tc : Thread nD τ).loc main_arg3) = m ((c.tc : Thread nD τ).loc main_arg3)
    ∧ x ((c.tc : Thread nD τ).loc main_arg4) = m ((c.tc : Thread nD τ).loc main_arg4)
    ∧ x ((c.tc : Thread nD τ).loc main_arg5) = m ((c.tc : Thread nD τ).loc main_arg5) :=
  ⟨h _ (by decide), h _ (by decide), h _ (by decide), h _ (by decide), h _ (by decide), h _ (by decide)⟩

/-- The run is the same at the bits: nothing of it depends on what a float is. -/
theorem frame_kernel : Cert.quiescent_Kernel (hKernel := Cert.Kernel.Gen.facts) := fun m ρ _ =>
  Cert.Same.run ((θ_run Cert.KernelIdeal.defs _ _).mono (fun _ h => ⟨fun c => kept (h.1 c).2, h.2⟩) (Cert.KernelIdeal.Main.run_main (F := Bits) m ρ))

theorem frame_ideal : Cert.quiescent_KernelIdeal (hKernelIdeal := Cert.KernelIdeal.Gen.facts) := fun m ρ _ =>
  (θ_run Cert.KernelIdeal.defs _ _).mono (fun _ h => ⟨fun c => kept (h.1 c).2, h.2⟩) (Cert.KernelIdeal.Main.run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

theorem algebraic : Cert.algebraic_KernelIdeal_ReferenceIdeal_pre_scalars_finite (hKernelIdeal := Cert.KernelIdeal.Gen.facts)
    (hReferenceIdeal := Cert.ReferenceIdeal.Gen.facts) (hPre_scalars_finite := pre_facts) := by
  letI := pre_facts
  intro m ρ m' ρ' hpre hagree
  refine ⟨_, (θ_run Cert.KernelIdeal.defs _ _).mono (fun r h c => ⟨(h.1 c).1.trans (Cert.KernelIdeal.Value.result m c), kept (h.1 c).2⟩)
      (Cert.KernelIdeal.Main.run_main (F := Ideal) m ρ),
    (θ_run Cert.ReferenceIdeal.defs _ _).mono (fun r h c => ⟨(h c).1.trans ?_, (h c).2⟩) (Cert.ReferenceIdeal.Value.run m' ρ')⟩
  obtain ⟨hst, hag, hwg⟩ := Cert.KernelIdeal.Value.of_pre _ _ _ _ _ _ (hpre c)
  obtain ⟨h0, h1, h2, h3, h4, h5⟩ := hagree c
  funext i
  rw [eq_ix1 i]
  exact (Cert.KernelIdeal.Value.reference_at m' c h0 h1 h2 h3 h4 h5 _).trans
    (Cert.KernelIdeal.Value.resultOf_eq _ _ _ _ _ _ hst hag hwg _).symm

theorem claim : Cert.Claim := ⟨Cert.Kernel.Gen.facts, Cert.KernelIdeal.Gen.facts, Cert.ReferenceIdeal.Gen.facts, pre_facts,
  frame_kernel, frame_ideal, fun m ρ _ => frame_ideal m ρ trivial, frame_reference, fun m ρ _ => frame_reference m ρ trivial, trivial, algebraic⟩

end Cert.Proof

end
